-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v327) = v0 c
          ∧ r.2.mem ((c.tc : Thread Cert.ReferenceIdeal.nD Cert.ReferenceIdeal.τ).loc Cert.ReferenceIdeal.main_v329) = v1 c
          ∧ r.2.mem ((c.tc : Thread Cert.ReferenceIdeal.nD Cert.ReferenceIdeal.τ).loc Cert.ReferenceIdeal.main_v331) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S8x2048x2048 : Shape := ⟨3, ![8, 2048, 2048]⟩
abbrev S1x2048 : Shape := ⟨2, ![1, 2048]⟩
abbrev S1x2048x5120 : Shape := ⟨3, ![1, 2048, 5120]⟩
abbrev S1x3x1024 : Shape := ⟨3, ![1, 3, 1024]⟩
abbrev S1x31x1024 : Shape := ⟨3, ![1, 31, 1024]⟩
abbrev S1x1024 : Shape := ⟨2, ![1, 1024]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S16384x2048 : Shape := ⟨2, ![16384, 2048]⟩
abbrev S2048 : Shape := ⟨1, ![2048]⟩
abbrev S2048x5120 : Shape := ⟨2, ![2048, 5120]⟩
abbrev S3x1024 : Shape := ⟨2, ![3, 1024]⟩
abbrev S31x1024 : Shape := ⟨2, ![31, 1024]⟩
abbrev S1024 : Shape := ⟨1, ![1024]⟩
abbrev S2048x2048 : Shape := ⟨2, ![2048, 2048]⟩
abbrev S2048x8192 : Shape := ⟨2, ![2048, 8192]⟩
abbrev S8192x2048 : Shape := ⟨2, ![8192, 2048]⟩
abbrev S256x2048 : Shape := ⟨2, ![256, 2048]⟩
abbrev S32x8192 : Shape := ⟨2, ![32, 8192]⟩
abbrev S128x2048 : Shape := ⟨2, ![128, 2048]⟩
abbrev S264x1024 : Shape := ⟨2, ![264, 1024]⟩
abbrev S288x1024 : Shape := ⟨2, ![288, 1024]⟩
abbrev S256x1024 : Shape := ⟨2, ![256, 1024]⟩
abbrev S8x1024 : Shape := ⟨2, ![8, 1024]⟩
abbrev S32x2048 : Shape := ⟨2, ![32, 2048]⟩
abbrev S32 : Shape := ⟨1, ![32]⟩
abbrev S32x1 : Shape := ⟨2, ![32, 1]⟩
abbrev S1x128 : Shape := ⟨2, ![1, 128]⟩
abbrev S64x128 : Shape := ⟨2, ![64, 128]⟩
abbrev S72x128 : Shape := ⟨2, ![72, 128]⟩
abbrev S8x128 : Shape := ⟨2, ![8, 128]⟩
abbrev S256x128 : Shape := ⟨2, ![256, 128]⟩
abbrev S1024x2048 : Shape := ⟨2, ![1024, 2048]⟩
abbrev S2048x256 : Shape := ⟨2, ![2048, 256]⟩
abbrev S256x256 : Shape := ⟨2, ![256, 256]⟩
abbrev S32x256 : Shape := ⟨2, ![32, 256]⟩
abbrev S8x256 : Shape := ⟨2, ![8, 256]⟩
abbrev S32x1024 : Shape := ⟨2, ![32, 1024]⟩
abbrev S256 : Shape := ⟨1, ![256]⟩
abbrev S256x1 : Shape := ⟨2, ![256, 1]⟩

abbrev nBuf : Space → Nat
  | .hbm => 34
  | .vmem => 30
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x5120, .f32⟩
  | .hbm, ⟨3, _⟩ => ⟨S1x3x1024, .f32⟩
  | .hbm, ⟨4, _⟩ => ⟨S1x31x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x2048x2048, .f32⟩
  | .hbm, ⟨9, _⟩ => ⟨S1x2048, .f32⟩
  | .hbm, ⟨10, _⟩ => ⟨S1x2048x8192, .f32⟩
  | .hbm, ⟨11, _⟩ => ⟨S1x8192x2048, .f32⟩
  | .hbm, ⟨12, _⟩ => ⟨S16384x2048, .f32⟩
  | .hbm, ⟨13, _⟩ => ⟨S2048, .f32⟩
  | .hbm, ⟨14, _⟩ => ⟨S1x2048, .f32⟩
  | .hbm, ⟨15, _⟩ => ⟨S2048x5120, .f32⟩
  | .hbm, ⟨16, _⟩ => ⟨S2048x5120, .bf16⟩
  | .hbm, ⟨17, _⟩ => ⟨S3x1024, .f32⟩
  | .hbm, ⟨18, _⟩ => ⟨S31x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S2048x2048, .f32⟩
  | .hbm, ⟨26, _⟩ => ⟨S2048x2048, .bf16⟩
  | .hbm, ⟨27, _⟩ => ⟨S2048, .f32⟩
  | .hbm, ⟨28, _⟩ => ⟨S1x2048, .f32⟩
  | .hbm, ⟨29, _⟩ => ⟨S2048x8192, .f32⟩
  | .hbm, ⟨30, _⟩ => ⟨S8192x2048, .f32⟩
  | .hbm, ⟨31, _⟩ => ⟨S16384x2048, .f32⟩
  | .hbm, ⟨32, _⟩ => ⟨S2048x8192, .bf16⟩
  | .hbm, ⟨33, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2048x5120, .bf16⟩
  | .local _ .vmem, ⟨6, _⟩ => ⟨S3x1024, .f32⟩
  | .local _ .vmem, ⟨7, _⟩ => ⟨S31x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S2048x2048, .bf16⟩
  | .local _ .vmem, ⟨12, _⟩ => ⟨S1x2048, .f32⟩
  | .local _ .vmem, ⟨13, _⟩ => ⟨S32x8192, .f32⟩
  | .local _ .vmem, ⟨14, _⟩ => ⟨S32x8192, .f32⟩
  | .local _ .vmem, ⟨15, _⟩ => ⟨S128x2048, .f32⟩
  | .local _ .vmem, ⟨16, _⟩ => ⟨S128x2048, .f32⟩
  | .local _ .vmem, ⟨17, _⟩ => ⟨S256x2048, .f32⟩
  | .local _ .vmem, ⟨18, _⟩ => ⟨S256x2048, .f32⟩
  | .local _ .vmem, ⟨19, _⟩ => ⟨S32x8192, .bf16⟩
  | .local _ .vmem, ⟨20, _⟩ => ⟨S32x8192, .bf16⟩
  | .local _ .vmem, ⟨21, _⟩ => ⟨S128x2048, .bf16⟩
  | .local _ .vmem, ⟨22, _⟩ => ⟨S128x2048, .bf16⟩
  | .local _ .vmem, ⟨23, _⟩ => ⟨S256x2048, .bf16⟩
  | .local _ .vmem, ⟨24, _⟩ => ⟨S256x2048, .bf16⟩
  | .local _ .vmem, ⟨25, _⟩ => ⟨S264x1024, .f32⟩
  | .local _ .vmem, ⟨26, _⟩ => ⟨S288x1024, .f32⟩
  | .local _ .vmem, ⟨27, _⟩ => ⟨S256x1024, .f32⟩
  | .local _ .vmem, ⟨28, _⟩ => ⟨S256x2048, .f32⟩
  | .local _ .vmem, ⟨29, _⟩ => ⟨S256x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S31x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x8192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S8x2048x2048 : Shape := ⟨3, ![8, 2048, 2048]⟩
abbrev S1x2048 : Shape := ⟨2, ![1, 2048]⟩
abbrev S1x2048x5120 : Shape := ⟨3, ![1, 2048, 5120]⟩
abbrev S1x3x1024 : Shape := ⟨3, ![1, 3, 1024]⟩
abbrev S1x31x1024 : Shape := ⟨3, ![1, 31, 1024]⟩
abbrev S1x1024 : Shape := ⟨2, ![1, 1024]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x5120 : Shape := ⟨2, ![2048, 5120]⟩
abbrev S8x2048x5120 : Shape := ⟨3, ![8, 2048, 5120]⟩
abbrev S8x2048x1024 : Shape := ⟨3, ![8, 2048, 1024]⟩
abbrev S3x1024 : Shape := ⟨2, ![3, 1024]⟩
abbrev S8x2x1024 : Shape := ⟨3, ![8, 2, 1024]⟩
abbrev S8x2050x1024 : Shape := ⟨3, ![8, 2050, 1024]⟩
abbrev S1024 : Shape := ⟨1, ![1024]⟩
abbrev S1x1x1024 : Shape := ⟨3, ![1, 1, 1024]⟩
abbrev S31x1024 : Shape := ⟨2, ![31, 1024]⟩
abbrev S8x30x1024 : Shape := ⟨3, ![8, 30, 1024]⟩
abbrev S8x2078x1024 : Shape := ⟨3, ![8, 2078, 1024]⟩
abbrev S2048x2048 : Shape := ⟨2, ![2048, 2048]⟩
abbrev S16384x2048 : Shape := ⟨2, ![16384, 2048]⟩
abbrev S2048x8192 : Shape := ⟨2, ![2048, 8192]⟩
abbrev S8192x2048 : Shape := ⟨2, ![8192, 2048]⟩

abbrev nBuf : Space → Nat
  | .hbm => 361
  | .vmem => 0
  | .smem => 0
  | _ => 0

abbrev hbmTy0_0 (i : Nat) : BufTy := match i % 128 with
  | 0 => ⟨S8x2048x2048, .f32⟩
  | 1 => ⟨S1x2048, .f32⟩
  | 2 => ⟨S1x2048x5120, .f32⟩
  | 3 => ⟨S1x3x1024, .f32⟩
  | 4 => ⟨S1x31x1024, .f32⟩
  | 5 => ⟨S1x1024, .f32⟩
  | 6 => ⟨S1x1024, .f32⟩
  | 7 => ⟨S1x1024, .f32⟩
  | 8 => ⟨S1x2048x2048, .f32⟩
  | 9 => ⟨S1x2048, .f32⟩
  | 10 => ⟨S1x2048x8192, .f32⟩
  | 11 => ⟨S1x8192x2048, .f32⟩
  | 12 => ⟨S2048, .f32⟩
  | 13 => ⟨S8x2048x2048, .f32⟩
  | 14 => ⟨S_, .f32⟩
  | 15 => ⟨S8x2048, .f32⟩
  | 16 => ⟨S8x2048x1, .f32⟩
  | 17 => ⟨S_, .f32⟩
  | 18 => ⟨S8x2048x1, .f32⟩
  | 19 => ⟨S8x2048x1, .f32⟩
  | 20 => ⟨S_, .f32⟩
  | 21 => ⟨S8x2048x1, .f32⟩
  | 22 => ⟨S8x2048x1, .f32⟩
  | 23 => ⟨S8x2048x1, .f32⟩
  | 24 => ⟨S8x2048x2048, .f32⟩
  | 25 => ⟨S8x2048x2048, .f32⟩
  | 26 => ⟨S1x1x2048, .f32⟩
  | 27 => ⟨S8x2048x2048, .f32⟩
  | 28 => ⟨S8x2048x2048, .f32⟩
  | 29 => ⟨S2048x5120, .f32⟩
  | 30 => ⟨S8x2048x5120, .f32⟩
  | 31 => ⟨S8x2048x1024, .f32⟩
  | 32 => ⟨S8x2048x1024, .f32⟩
  | 33 => ⟨S8x2048x1024, .f32⟩
  | 34 => ⟨S8x2048x1024, .f32⟩
  | 35 => ⟨S8x2048x1024, .f32⟩
  | 36 => ⟨S8x2048x1024, .f32⟩
  | 37 => ⟨S3x1024, .f32⟩
  | 38 => ⟨S_, .f32⟩
  | 39 => ⟨S8x2x1024, .f32⟩
  | 40 => ⟨S8x2050x1024, .f32⟩
  | 41 => ⟨S1x1024, .f32⟩
  | 42 => ⟨S1024, .f32⟩
  | 43 => ⟨S8x2048x1024, .f32⟩
  | 44 => ⟨S1x1x1024, .f32⟩
  | 45 => ⟨S8x2048x1024, .f32⟩
  | 46 => ⟨S8x2048x1024, .f32⟩
  | 47 => ⟨S1x1024, .f32⟩
  | 48 => ⟨S1024, .f32⟩
  | 49 => ⟨S8x2048x1024, .f32⟩
  | 50 => ⟨S1x1x1024, .f32⟩
  | 51 => ⟨S8x2048x1024, .f32⟩
  | 52 => ⟨S8x2048x1024, .f32⟩
  | 53 => ⟨S8x2048x1024, .f32⟩
  | 54 => ⟨S1x1024, .f32⟩
  | 55 => ⟨S1024, .f32⟩
  | 56 => ⟨S8x2048x1024, .f32⟩
  | 57 => ⟨S1x1x1024, .f32⟩
  | 58 => ⟨S8x2048x1024, .f32⟩
  | 59 => ⟨S8x2048x1024, .f32⟩
  | 60 => ⟨S8x2048x1024, .f32⟩
  | 61 => ⟨S8x2048x1024, .f32⟩
  | 62 => ⟨S8x2048x1024, .f32⟩
  | 63 => ⟨S8x2048x1024, .f32⟩
  | 64 => ⟨S_, .f32⟩
  | 65 => ⟨S8x2048x1024, .f32⟩
  | 66 => ⟨S8x2048x1024, .f32⟩
  | 67 => ⟨S_, .f32⟩
  | 68 => ⟨S8x2048x1024, .f32⟩
  | 69 => ⟨S8x2048x1024, .f32⟩
  | 70 => ⟨S8x2048x1024, .f32⟩
  | 71 => ⟨S31x1024, .f32⟩
  | 72 => ⟨S_, .f32⟩
  | 73 => ⟨S8x30x1024, .f32⟩
  | 74 => ⟨S8x2078x1024, .f32⟩
  | 75 => ⟨S1x1024, .f32⟩
  | 76 => ⟨S1024, .f32⟩
  | 77 => ⟨S8x2048x1024, .f32⟩
  | 78 => ⟨S1x1x1024, .f32⟩
  | 79 => ⟨S8x2048x1024, .f32⟩
  | 80 => ⟨S8x2048x1024, .f32⟩
  | 81 => ⟨S1x1024, .f32⟩
  | 82 => ⟨S1024, .f32⟩
  | 83 => ⟨S8x2048x1024, .f32⟩
  | 84 => ⟨S1x1x1024, .f32⟩
  | 85 => ⟨S8x2048x1024, .f32⟩
  | 86 => ⟨S8x2048x1024, .f32⟩
  | 87 => ⟨S8x2048x1024, .f32⟩
  | 88 => ⟨S1x1024, .f32⟩
  | 89 => ⟨S1024, .f32⟩
  | 90 => ⟨S8x2048x1024, .f32⟩
  | 91 => ⟨S1x1x1024, .f32⟩
  | 92 => ⟨S8x2048x1024, .f32⟩
  | 93 => ⟨S8x2048x1024, .f32⟩
  | 94 => ⟨S8x2048x1024, .f32⟩
  | 95 => ⟨S1x1024, .f32⟩
  | 96 => ⟨S1024, .f32⟩
  | 97 => ⟨S8x2048x1024, .f32⟩
  | 98 => ⟨S1x1x1024, .f32⟩
  | 99 => ⟨S8x2048x1024, .f32⟩
  | 100 => ⟨S8x2048x1024, .f32⟩
  | 101 => ⟨S8x2048x1024, .f32⟩
  | 102 => ⟨S1x1024, .f32⟩
  | 103 => ⟨S1024, .f32⟩
  | 104 => ⟨S8x2048x1024, .f32⟩
  | 105 => ⟨S1x1x1024, .f32⟩
  | 106 => ⟨S8x2048x1024, .f32⟩
  | 107 => ⟨S8x2048x1024, .f32⟩
  | 108 => ⟨S8x2048x1024, .f32⟩
  | 109 => ⟨S1x1024, .f32⟩
  | 110 => ⟨S1024, .f32⟩
  | 111 => ⟨S8x2048x1024, .f32⟩
  | 112 => ⟨S1x1x1024, .f32⟩
  | 113 => ⟨S8x2048x1024, .f32⟩
  | 114 => ⟨S8x2048x1024, .f32⟩
  | 115 => ⟨S8x2048x1024, .f32⟩
  | 116 => ⟨S1x1024, .f32⟩
  | 117 => ⟨S1024, .f32⟩
  | 118 => ⟨S8x2048x1024, .f32⟩
  | 119 => ⟨S1x1x1024, .f32⟩
  | 120 => ⟨S8x2048x1024, .f32⟩
  | 121 => ⟨S8x2048x1024, .f32⟩
  | 122 => ⟨S8x2048x1024, .f32⟩
  | 123 => ⟨S1x1024, .f32⟩
  | 124 => ⟨S1024, .f32⟩
  | 125 => ⟨S8x2048x1024, .f32⟩
  | 126 => ⟨S1x1x1024, .f32⟩
  | 127 => ⟨S8x2048x1024, .f32⟩
  | _ => ⟨S8x2048x2048, .f32⟩

abbrev hbmTy0_1 (i : Nat) : BufTy := match i % 128 with
  | 0 => ⟨S8x2048x1024, .f32⟩
  | 1 => ⟨S8x2048x1024, .f32⟩
  | 2 => ⟨S1x1024, .f32⟩
  | 3 => ⟨S1024, .f32⟩
  | 4 => ⟨S8x2048x1024, .f32⟩
  | 5 => ⟨S1x1x1024, .f32⟩
  | 6 => ⟨S8x2048x1024, .f32⟩
  | 7 => ⟨S8x2048x1024, .f32⟩
  | 8 => ⟨S8x2048x1024, .f32⟩
  | 9 => ⟨S1x1024, .f32⟩
  | 10 => ⟨S1024, .f32⟩
  | 11 => ⟨S8x2048x1024, .f32⟩
  | 12 => ⟨S1x1x1024, .f32⟩
  | 13 => ⟨S8x2048x1024, .f32⟩
  | 14 => ⟨S8x2048x1024, .f32⟩
  | 15 => ⟨S8x2048x1024, .f32⟩
  | 16 => ⟨S1x1024, .f32⟩
  | 17 => ⟨S1024, .f32⟩
  | 18 => ⟨S8x2048x1024, .f32⟩
  | 19 => ⟨S1x1x1024, .f32⟩
  | 20 => ⟨S8x2048x1024, .f32⟩
  | 21 => ⟨S8x2048x1024, .f32⟩
  | 22 => ⟨S8x2048x1024, .f32⟩
  | 23 => ⟨S1x1024, .f32⟩
  | 24 => ⟨S1024, .f32⟩
  | 25 => ⟨S8x2048x1024, .f32⟩
  | 26 => ⟨S1x1x1024, .f32⟩
  | 27 => ⟨S8x2048x1024, .f32⟩
  | 28 => ⟨S8x2048x1024, .f32⟩
  | 29 => ⟨S8x2048x1024, .f32⟩
  | 30 => ⟨S1x1024, .f32⟩
  | 31 => ⟨S1024, .f32⟩
  | 32 => ⟨S8x2048x1024, .f32⟩
  | 33 => ⟨S1x1x1024, .f32⟩
  | 34 => ⟨S8x2048x1024, .f32⟩
  | 35 => ⟨S8x2048x1024, .f32⟩
  | 36 => ⟨S8x2048x1024, .f32⟩
  | 37 => ⟨S1x1024, .f32⟩
  | 38 => ⟨S1024, .f32⟩
  | 39 => ⟨S8x2048x1024, .f32⟩
  | 40 => ⟨S1x1x1024, .f32⟩
  | 41 => ⟨S8x2048x1024, .f32⟩
  | 42 => ⟨S8x2048x1024, .f32⟩
  | 43 => ⟨S8x2048x1024, .f32⟩
  | 44 => ⟨S1x1024, .f32⟩
  | 45 => ⟨S1024, .f32⟩
  | 46 => ⟨S8x2048x1024, .f32⟩
  | 47 => ⟨S1x1x1024, .f32⟩
  | 48 => ⟨S8x2048x1024, .f32⟩
  | 49 => ⟨S8x2048x1024, .f32⟩
  | 50 => ⟨S8x2048x1024, .f32⟩
  | 51 => ⟨S1x1024, .f32⟩
  | 52 => ⟨S1024, .f32⟩
  | 53 => ⟨S8x2048x1024, .f32⟩
  | 54 => ⟨S1x1x1024, .f32⟩
  | 55 => ⟨S8x2048x1024, .f32⟩
  | 56 => ⟨S8x2048x1024, .f32⟩
  | 57 => ⟨S8x2048x1024, .f32⟩
  | 58 => ⟨S1x1024, .f32⟩
  | 59 => ⟨S1024, .f32⟩
  | 60 => ⟨S8x2048x1024, .f32⟩
  | 61 => ⟨S1x1x1024, .f32⟩
  | 62 => ⟨S8x2048x1024, .f32⟩
  | 63 => ⟨S8x2048x1024, .f32⟩
  | 64 => ⟨S8x2048x1024, .f32⟩
  | 65 => ⟨S1x1024, .f32⟩
  | 66 => ⟨S1024, .f32⟩
  | 67 => ⟨S8x2048x1024, .f32⟩
  | 68 => ⟨S1x1x1024, .f32⟩
  | 69 => ⟨S8x2048x1024, .f32⟩
  | 70 => ⟨S8x2048x1024, .f32⟩
  | 71 => ⟨S8x2048x1024, .f32⟩
  | 72 => ⟨S1x1024, .f32⟩
  | 73 => ⟨S1024, .f32⟩
  | 74 => ⟨S8x2048x1024, .f32⟩
  | 75 => ⟨S1x1x1024, .f32⟩
  | 76 => ⟨S8x2048x1024, .f32⟩
  | 77 => ⟨S8x2048x1024, .f32⟩
  | 78 => ⟨S8x2048x1024, .f32⟩
  | 79 => ⟨S1x1024, .f32⟩
  | 80 => ⟨S1024, .f32⟩
  | 81 => ⟨S8x2048x1024, .f32⟩
  | 82 => ⟨S1x1x1024, .f32⟩
  | 83 => ⟨S8x2048x1024, .f32⟩
  | 84 => ⟨S8x2048x1024, .f32⟩
  | 85 => ⟨S8x2048x1024, .f32⟩
  | 86 => ⟨S1x1024, .f32⟩
  | 87 => ⟨S1024, .f32⟩
  | 88 => ⟨S8x2048x1024, .f32⟩
  | 89 => ⟨S1x1x1024, .f32⟩
  | 90 => ⟨S8x2048x1024, .f32⟩
  | 91 => ⟨S8x2048x1024, .f32⟩
  | 92 => ⟨S8x2048x1024, .f32⟩
  | 93 => ⟨S1x1024, .f32⟩
  | 94 => ⟨S1024, .f32⟩
  | 95 => ⟨S8x2048x1024, .f32⟩
  | 96 => ⟨S1x1x1024, .f32⟩
  | 97 => ⟨S8x2048x1024, .f32⟩
  | 98 => ⟨S8x2048x1024, .f32⟩
  | 99 => ⟨S8x2048x1024, .f32⟩
  | 100 => ⟨S1x1024, .f32⟩
  | 101 => ⟨S1024, .f32⟩
  | 102 => ⟨S8x2048x1024, .f32⟩
  | 103 => ⟨S1x1x1024, .f32⟩
  | 104 => ⟨S8x2048x1024, .f32⟩
  | 105 => ⟨S8x2048x1024, .f32⟩
  | 106 => ⟨S8x2048x1024, .f32⟩
  | 107 => ⟨S1x1024, .f32⟩
  | 108 => ⟨S1024, .f32⟩
  | 109 => ⟨S8x2048x1024, .f32⟩
  | 110 => ⟨S1x1x1024, .f32⟩
  | 111 => ⟨S8x2048x1024, .f32⟩
  | 112 => ⟨S8x2048x1024, .f32⟩
  | 113 => ⟨S8x2048x1024, .f32⟩
  | 114 => ⟨S1x1024, .f32⟩
  | 115 => ⟨S1024, .f32⟩
  | 116 => ⟨S8x2048x1024, .f32⟩
  | 117 => ⟨S1x1x1024, .f32⟩
  | 118 => ⟨S8x2048x1024, .f32⟩
  | 119 => ⟨S8x2048x1024, .f32⟩
  | 120 => ⟨S8x2048x1024, .f32⟩
  | 121 => ⟨S1x1024, .f32⟩
  | 122 => ⟨S1024, .f32⟩
  | 123 => ⟨S8x2048x1024, .f32⟩
  | 124 => ⟨S1x1x1024, .f32⟩
  | 125 => ⟨S8x2048x1024, .f32⟩
  | 126 => ⟨S8x2048x1024, .f32⟩
  | 127 => ⟨S8x2048x1024, .f32⟩
  | _ => ⟨S8x2048x2048, .f32⟩

abbrev hbmTy0_2 (i : Nat) : BufTy := match i % 128 with
  | 0 => ⟨S1x1024, .f32⟩
  | 1 => ⟨S1024, .f32⟩
  | 2 => ⟨S8x2048x1024, .f32⟩
  | 3 => ⟨S1x1x1024, .f32⟩
  | 4 => ⟨S8x2048x1024, .f32⟩
  | 5 => ⟨S8x2048x1024, .f32⟩
  | 6 => ⟨S8x2048x1024, .f32⟩
  | 7 => ⟨S1x1024, .f32⟩
  | 8 => ⟨S1024, .f32⟩
  | 9 => ⟨S8x2048x1024, .f32⟩
  | 10 => ⟨S1x1x1024, .f32⟩
  | 11 => ⟨S8x2048x1024, .f32⟩
  | 12 => ⟨S8x2048x1024, .f32⟩
  | 13 => ⟨S8x2048x1024, .f32⟩
  | 14 => ⟨S1x1024, .f32⟩
  | 15 => ⟨S1024, .f32⟩
  | 16 => ⟨S8x2048x1024, .f32⟩
  | 17 => ⟨S1x1x1024, .f32⟩
  | 18 => ⟨S8x2048x1024, .f32⟩
  | 19 => ⟨S8x2048x1024, .f32⟩
  | 20 => ⟨S8x2048x1024, .f32⟩
  | 21 => ⟨S1x1024, .f32⟩
  | 22 => ⟨S1024, .f32⟩
  | 23 => ⟨S8x2048x1024, .f32⟩
  | 24 => ⟨S1x1x1024, .f32⟩
  | 25 => ⟨S8x2048x1024, .f32⟩
  | 26 => ⟨S8x2048x1024, .f32⟩
  | 27 => ⟨S8x2048x1024, .f32⟩
  | 28 => ⟨S1x1024, .f32⟩
  | 29 => ⟨S1024, .f32⟩
  | 30 => ⟨S8x2048x1024, .f32⟩
  | 31 => ⟨S1x1x1024, .f32⟩
  | 32 => ⟨S8x2048x1024, .f32⟩
  | 33 => ⟨S8x2048x1024, .f32⟩
  | 34 => ⟨S8x2048x1024, .f32⟩
  | 35 => ⟨S1024, .f32⟩
  | 36 => ⟨S1x1x1024, .f32⟩
  | 37 => ⟨S8x2048x1024, .f32⟩
  | 38 => ⟨S8x2048x1024, .f32⟩
  | 39 => ⟨S1024, .f32⟩
  | 40 => ⟨S1024, .f32⟩
  | 41 => ⟨S_, .f32⟩
  | 42 => ⟨S8x2048, .f32⟩
  | 43 => ⟨S8x2048x1, .f32⟩
  | 44 => ⟨S_, .f32⟩
  | 45 => ⟨S8x2048x1, .f32⟩
  | 46 => ⟨S8x2048x1, .f32⟩
  | 47 => ⟨S8x2048x1024, .f32⟩
  | 48 => ⟨S8x2048x1024, .f32⟩
  | 49 => ⟨S8x2048x1024, .f32⟩
  | 50 => ⟨S_, .f32⟩
  | 51 => ⟨S8x2048, .f32⟩
  | 52 => ⟨S8x2048x1, .f32⟩
  | 53 => ⟨S_, .f32⟩
  | 54 => ⟨S8x2048x1, .f32⟩
  | 55 => ⟨S8x2048x1, .f32⟩
  | 56 => ⟨S8x2048x1024, .f32⟩
  | 57 => ⟨S8x2048x1024, .f32⟩
  | 58 => ⟨S_, .f32⟩
  | 59 => ⟨S8x2048x1, .f32⟩
  | 60 => ⟨S8x2048x1, .f32⟩
  | 61 => ⟨S8x2048x1, .f32⟩
  | 62 => ⟨S8x2048x1024, .f32⟩
  | 63 => ⟨S8x2048x1024, .f32⟩
  | 64 => ⟨S1x1x1024, .f32⟩
  | 65 => ⟨S8x2048x1024, .f32⟩
  | 66 => ⟨S8x2048x1024, .f32⟩
  | 67 => ⟨S1x1x1024, .f32⟩
  | 68 => ⟨S8x2048x1024, .f32⟩
  | 69 => ⟨S8x2048x1024, .f32⟩
  | 70 => ⟨S8x2048x1024, .f32⟩
  | 71 => ⟨S8x2048x1024, .f32⟩
  | 72 => ⟨S_, .f32⟩
  | 73 => ⟨S8x2048x1024, .f32⟩
  | 74 => ⟨S8x2048x1024, .f32⟩
  | 75 => ⟨S_, .f32⟩
  | 76 => ⟨S8x2048x1024, .f32⟩
  | 77 => ⟨S8x2048x1024, .f32⟩
  | 78 => ⟨S8x2048x1024, .f32⟩
  | 79 => ⟨S8x2048x2048, .f32⟩
  | 80 => ⟨S2048x2048, .f32⟩
  | 81 => ⟨S8x2048x2048, .f32⟩
  | 82 => ⟨S2048, .f32⟩
  | 83 => ⟨S8x2048x2048, .f32⟩
  | 84 => ⟨S_, .f32⟩
  | 85 => ⟨S8x2048, .f32⟩
  | 86 => ⟨S8x2048x1, .f32⟩
  | 87 => ⟨S_, .f32⟩
  | 88 => ⟨S8x2048x1, .f32⟩
  | 89 => ⟨S8x2048x1, .f32⟩
  | 90 => ⟨S_, .f32⟩
  | 91 => ⟨S8x2048x1, .f32⟩
  | 92 => ⟨S8x2048x1, .f32⟩
  | 93 => ⟨S8x2048x1, .f32⟩
  | 94 => ⟨S8x2048x2048, .f32⟩
  | 95 => ⟨S8x2048x2048, .f32⟩
  | 96 => ⟨S1x1x2048, .f32⟩
  | 97 => ⟨S8x2048x2048, .f32⟩
  | 98 => ⟨S8x2048x2048, .f32⟩
  | 99 => ⟨S8x2048x2048, .f32⟩
  | 100 => ⟨S16384x2048, .f32⟩
  | 101 => ⟨S2048x8192, .f32⟩
  | 102 => ⟨S2048x8192, .bf16⟩
  | 103 => ⟨S8192x2048, .f32⟩
  | 104 => ⟨S8192x2048, .bf16⟩
  | _ => ⟨S8x2048x2048, .f32⟩

abbrev hbmTy (i : Nat) : BufTy := match i / 128 with
  | 0 => hbmTy0_0 i
  | 1 => hbmTy0_1 i
  | 2 => hbmTy0_2 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_3 : Ref sig .tc := ⟨.hbm, 64, rfl⟩
abbrev main_v48 : Ref sig .tc := ⟨.hbm, 65, rfl⟩
abbrev main_v49 : Ref sig .tc := ⟨.hbm, 66, rfl⟩
abbrev main_cst_4 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_v265 : Ref sig .tc := ⟨.hbm, 284, rfl⟩
abbrev main_v266 : Ref sig .tc := ⟨.hbm, 285, rfl⟩
abbrev main_v267 : Ref sig .tc := ⟨.hbm, 286, rfl⟩
abbrev main_v268 : Ref sig .tc := ⟨.hbm, 287, rfl⟩
abbrev main_v269 : Ref sig .tc := ⟨.hbm, 288, rfl⟩
abbrev main_v270 : Ref sig .tc := ⟨.hbm, 289, rfl⟩
abbrev main_v271 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_v276 : Ref sig .tc := ⟨.hbm, 295, rfl⟩
abbrev main_v277 : Ref sig .tc := ⟨.hbm, 296, rfl⟩
abbrev main_cst_6 : Ref sig .tc := ⟨.hbm, 297, rfl⟩
abbrev main_v278 : Ref sig .tc := ⟨.hbm, 298, rfl⟩
abbrev main_v279 : Ref sig .tc := ⟨.hbm, 299, rfl⟩
abbrev main_cst_7 : Ref sig .tc := ⟨.hbm, 300, rfl⟩
abbrev main_v280 : Ref sig .tc := ⟨.hbm, 301, rfl⟩
abbrev main_v281 : Ref sig .tc := ⟨.hbm, 302, rfl⟩
abbrev main_v282 : Ref sig .tc := ⟨.hbm, 303, rfl⟩
abbrev main_v283 : Ref sig .tc := ⟨.hbm, 304, rfl⟩
abbrev main_v284 : Ref sig .tc := ⟨.hbm, 305, rfl⟩
abbrev main_cst_8 : Ref sig .tc := ⟨.hbm, 306, rfl⟩
abbrev main_v285 : Ref sig .tc := ⟨.hbm, 307, rfl⟩
abbrev main_v286 : Ref sig .tc := ⟨.hbm, 308, rfl⟩
abbrev main_cst_9 : Ref sig .tc := ⟨.hbm, 309, rfl⟩
abbrev main_v287 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_cst_10 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_cst_11 : Ref sig .tc := ⟨.hbm, 328, rfl⟩
abbrev main_v304 : Ref sig .tc := ⟨.hbm, 329, rfl⟩
abbrev main_v305 : Ref sig .tc := ⟨.hbm, 330, rfl⟩
abbrev main_cst_12 : Ref sig .tc := ⟨.hbm, 331, rfl⟩
abbrev main_v306 : Ref sig .tc := ⟨.hbm, 332, rfl⟩
abbrev main_v307 : Ref sig .tc := ⟨.hbm, 333, rfl⟩
abbrev main_v308 : Ref sig .tc := ⟨.hbm, 334, rfl⟩
abbrev main_v309 : Ref sig .tc := ⟨.hbm, 335, rfl⟩
abbrev main_v310 : Ref sig .tc := ⟨.hbm, 336, rfl⟩
abbrev main_v311 : Ref sig .tc := ⟨.hbm, 337, rfl⟩
abbrev main_v312 : Ref sig .tc := ⟨.hbm, 338, rfl⟩
abbrev main_v313 : Ref sig .tc := ⟨.hbm, 339, rfl⟩
abbrev main_cst_13 : Ref sig .tc := ⟨.hbm, 340, rfl⟩
abbrev main_v314 : Ref sig .tc := ⟨.hbm, 341, rfl⟩
abbrev main_v315 : Ref sig .tc := ⟨.hbm, 342, rfl⟩
abbrev main_cst_14 : Ref sig .tc := ⟨.hbm, 343, rfl⟩
abbrev main_v316 : Ref sig .tc := ⟨.hbm, 344, rfl⟩
abbrev main_v317 : Ref sig .tc := ⟨.hbm, 345, rfl⟩
abbrev main_cst_15 : Ref sig .tc := ⟨.hbm, 346, rfl⟩
abbrev main_v318 : Ref sig .tc := ⟨.hbm, 347, rfl⟩
abbrev main_v319 : Ref sig .tc := ⟨.hbm, 348, rfl⟩
abbrev main_v320 : Ref sig .tc := ⟨.hbm, 349, rfl⟩
abbrev main_v321 : Ref sig .tc := ⟨.hbm, 350, rfl⟩
abbrev main_v322 : Ref sig .tc := ⟨.hbm, 351, rfl⟩
abbrev main_v323 : Ref sig .tc := ⟨.hbm, 352, rfl⟩
abbrev main_v324 : Ref sig .tc := ⟨.hbm, 353, rfl⟩
abbrev main_v325 : Ref sig .tc := ⟨.hbm, 354, rfl⟩
abbrev main_v326 : Ref sig .tc := ⟨.hbm, 355, rfl⟩
abbrev main_v327 : Ref sig .tc := ⟨.hbm, 356, rfl⟩
abbrev main_v328 : Ref sig .tc := ⟨.hbm, 357, rfl⟩
abbrev main_v329 : Ref sig .tc := ⟨.hbm, 358, rfl⟩
abbrev main_v330 : Ref sig .tc := ⟨.hbm, 359, rfl⟩
abbrev main_v331 : Ref sig .tc := ⟨.hbm, 360, rfl⟩

abbrev nD : Nat := 1
abbrev τ : Topo := Topo.v7x

variable {F : FTy → Type} [FloatOps F]
-- ==== Kernel2.lean ====
abbrev S8x2048x2048 : Shape := ⟨3, ![8, 2048, 2048]⟩
abbrev S1x2048 : Shape := ⟨2, ![1, 2048]⟩
abbrev S2048x8192 : Shape := ⟨2, ![2048, 8192]⟩
abbrev S8192x2048 : Shape := ⟨2, ![8192, 2048]⟩
abbrev S16384x2048 : Shape := ⟨2, ![16384, 2048]⟩
abbrev S2048 : Shape := ⟨1, ![2048]⟩
abbrev S512x2048 : Shape := ⟨2, ![512, 2048]⟩
abbrev S2048x1024 : Shape := ⟨2, ![2048, 1024]⟩
abbrev S1024x2048 : Shape := ⟨2, ![1024, 2048]⟩
abbrev S32x2048 : Shape := ⟨2, ![32, 2048]⟩
abbrev S32 : Shape := ⟨1, ![32]⟩
abbrev S32x1 : Shape := ⟨2, ![32, 1]⟩
abbrev S512x1024 : Shape := ⟨2, ![512, 1024]⟩

abbrev nBuf : Space → Nat
  | .hbm => 11
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S16384x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8x2048x2048 : Shape := ⟨3, ![8, 2048, 2048]⟩
abbrev S1x2048 : Shape := ⟨2, ![1, 2048]⟩
abbrev S2048x8192 : Shape := ⟨2, ![2048, 8192]⟩
abbrev S8192x2048 : Shape := ⟨2, ![8192, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x8192 : Shape := ⟨3, ![8, 2048, 8192]⟩
abbrev S16384x2048 : Shape := ⟨2, ![16384, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S2048x8192, .f32⟩
  | .hbm, ⟨23, _⟩ => ⟨S8x2048x8192, .f32⟩
  | .hbm, ⟨24, _⟩ => ⟨S_, .f32⟩
  | .hbm, ⟨25, _⟩ => ⟨S8x2048x8192, .f32⟩
  | .hbm, ⟨26, _⟩ => ⟨S8x2048x8192, .f32⟩
  | .hbm, ⟨27, _⟩ => ⟨S8x2048x8192, .f32⟩
  | .hbm, ⟨28, _⟩ => ⟨S8192x2048, .f32⟩
  | .hbm, ⟨29, _⟩ => ⟨S8x2048x2048, .f32⟩
  | .hbm, ⟨30, _⟩ => ⟨S2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S1x1x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.MixConv.lean ====
/-
  One block of the two causal convolutions, 64 rows by 128 columns: the operations that the kernel applies to the
  weights and to the rows it loads, and their value at an index over the reals.
-/
module

public import proofs.«01_k».proof.Proof.Gen.KernelIdeal.Skeleton
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Mix

open Idealize.ShloMosaic Idealize.ShloMosaic.TcCoe Idealize.ShloMosaic.Tactic
open Cert.KernelIdeal Cert.KernelIdeal.Gen

variable {F : FTy → Type} [FloatOps F]

theorem fits {n m a b o l : ℕ} (h0 : o + a ≤ n) (h1 : l + b ≤ m) :
    ∀ k : Fin 2, (![o, l] : Fin 2 → ℕ) k + (![a, b] : Fin 2 → ℕ) k ≤ (![n, m] : Fin 2 → ℕ) k :=
  Fin.forall_fin_two.mpr ⟨h0, h1⟩

/-- The rectangle of `a` rows by `b` columns at row `o`, column `l`. -/
abbrev box {n m : ℕ} (o l a b : ℕ) (h0 : o + a ≤ n) (h1 : l + b ≤ m) : Rect ⟨2, ![n, m]⟩ :=
  Rect.unit (s := ⟨2, ![n, m]⟩) ![o, l] ![a, b] (fits h0 h1)

/-- A load of a rectangle of a buffer that holds `X`. -/
abbrev load {sp : Space} {n m : ℕ} {e : EltTy} (M : Memref sig .tc sp ⟨2, ![n, m]⟩ e) (hM : M.IsWhole)
    (X : Vec F ⟨2, ![n, m]⟩ e) (o l a b : ℕ) (h0 : o + a ≤ n) (h1 : l + b ≤ m) : Vec F ⟨2, ![a, b]⟩ e :=
  M.view.readAt (Elt F) (box o l a b h0 h1).toLoadRect (hM.unread X)

/-- Where a rectangle places an index. -/
theorem box_emb {n m : ℕ} (o l a b : ℕ) (h0 : o + a ≤ n) (h1 : l + b ≤ m) (r : Fin a) (j : Fin b) :
    (box (n := n) (m := m) o l a b h0 h1).emb (ix2 r j) = ix2 ⟨o + r.val, by omega⟩ ⟨l + j.val, by omega⟩ := by
  funext a
  match a with
  | ⟨0, _⟩ => exact Fin.ext (show o + 1 * r.val = o + r.val by rw [Nat.one_mul])
  | ⟨1, _⟩ => exact Fin.ext (show l + 1 * j.val = l + j.val by rw [Nat.one_mul])

/-- A load at an index. -/
theorem load_apply {sp : Space} {n m : ℕ} {e : EltTy} (M : Memref sig .tc sp ⟨2, ![n, m]⟩ e) (hM : M.IsWhole)
    (X : Vec F ⟨2, ![n, m]⟩ e) (o l a b : ℕ) (h0 : o + a ≤ n) (h1 : l + b ≤ m) (r : Fin a) (j : Fin b) :
    load M hM X o l a b h0 h1 (ix2 r j) = X (ix2 ⟨o + r.val, by omega⟩ ⟨l + j.val, by omega⟩) := by
  unfold load
  rw [View.readAt_eq_ld, hM.read_unread]
  exact congrArg X (box_emb o l a b h0 h1 r j)

/-- Every index of a two-axis shape is a pair. -/
theorem eq_ix2 {a b : ℕ} (x : Shape.Idx ⟨2, ![a, b]⟩) : ∃ (r : Fin a) (j : Fin b), x = ix2 r j :=
  ⟨x 0, x 1, by funext k; match k with | ⟨0, _⟩ => rfl | ⟨1, _⟩ => rfl⟩

/-- A weight row times 64 rows. -/
def tap64 (w : Vec F S1x128 .f32) (e : Vec F S64x128 .f32) : FVec F S64x128 .f32 :=
  mulf (broadcastTo S64x128 (shapeCast S1x128 w shapeCasts_S1x128_S1x128) broadcasts_S1x128_S64x128) e

/-- A weight row times 72 rows. -/
def tap72 (w : Vec F S1x128 .f32) (e : Vec F S72x128 .f32) : FVec F S72x128 .f32 :=
  mulf (broadcastTo S72x128 (shapeCast S1x128 w shapeCasts_S1x128_S1x128) broadcasts_S1x128_S72x128) e

/-- Rows `72 − s` … of 72 rows, turned to the front, 64 of them. -/
def front (s : BitVec 32) (p : FVec F S72x128 .f32) : FVec F S64x128 .f32 :=
  extractStridedSlice S64x128 ![0, 0] (dynamicRotate 0 s none p rotates_S72x128_d0) slices_S72x128_o0_0_S64x128

/-- Four weight rows of one residue, times their rows. -/
def four (w : Fin 31 → Vec F S1x128 .f32) (q : Fin 4 → Vec F S72x128 .f32) (a b c d : Fin 31) : FVec F S72x128 .f32 :=
  addf (addf (addf (tap72 (w a) (q 0)) (tap72 (w b) (q 1))) (tap72 (w c) (q 2))) (tap72 (w d) (q 3))

/-- A block of the convolution of 31 weights. -/
def convB (b : Vec F S1x128 .f32) (w : Fin 31 → Vec F S1x128 .f32) (p : Fin 4 → Vec F S64x128 .f32)
    (q : Fin 4 → Vec F S72x128 .f32) : FVec F S64x128 .f32 :=
  have start : FVec F S64x128 .f32 := broadcastTo S64x128 (shapeCast S1x128 (shapeCast S1x128 b shapeCasts_S1x128_S1x128) shapeCasts_S1x128_S1x128) broadcasts_S1x128_S64x128
  addf (addf (addf (addf (addf (addf (addf (addf start
    (addf (addf (addf (tap64 (w 6) (p 0)) (tap64 (w 14) (p 1))) (tap64 (w 22) (p 2))) (tap64 (w 30) (p 3))))
    (front 71#32 (addf (addf (tap72 (w 7) (q 1)) (tap72 (w 15) (q 2))) (tap72 (w 23) (q 3)))))
    (front 70#32 (four w q 0 8 16 24)))
    (front 69#32 (four w q 1 9 17 25)))
    (front 68#32 (four w q 2 10 18 26)))
    (front 67#32 (four w q 3 11 19 27)))
    (front 66#32 (four w q 4 12 20 28)))
    (front 65#32 (four w q 5 13 21 29))

/-- A block of the convolution of three weights. -/
def convA (w : Fin 3 → Vec F S1x128 .f32) (p : Vec F S64x128 .f32) (q : Vec F S72x128 .f32) : FVec F S64x128 .f32 :=
  addf (addf (addf (broadcast S64x128 (Scalar.ofBits .f32 0x00000000#32 : F .f32)) (tap64 (w 2) p))
    (front 66#32 (tap72 (w 0) q))) (front 65#32 (tap72 (w 1) q))

/-- A sum of 31 terms, written out. -/
theorem sum31 (f : Fin 31 → EReal) : ∑ k, f k = f 0 + (f 1 + (f 2 + (f 3 + (f 4 + (f 5 + (f 6 + (f 7 + (f 8 + (f 9 + (f 10 + (f 11 + (f 12 + (f 13 + (f 14 + (f 15 + (f 16 + (f 17 + (f 18 + (f 19 + (f 20 + (f 21 + (f 22 + (f 23 + (f 24 + (f 25 + (f 26 + (f 27 + (f 28 + (f 29 + (f 30 + 0)))))))))))))))))))))))))))))) := by
  simp only [Fin.sum_univ_succ, Fin.sum_univ_zero]
  rfl

/-- The block of 31 weights at an index: `e k` is the entry that the weight `k` meets. -/
theorem convB_apply (b : Vec Ideal S1x128 .f32) (w : Fin 31 → Vec Ideal S1x128 .f32) (p : Fin 4 → Vec Ideal S64x128 .f32)
    (q : Fin 4 → Vec Ideal S72x128 .f32) (e : ℕ → EReal) (r : Fin 64) (j : Fin 128)
    (hp : ∀ k : Fin 4, p k (ix2 r j) = e (8 * k.val + 6))
    (hq : ∀ (k : Fin 4) (i : Fin 72), r.val < i.val → i.val < r.val + 8 → 2 ≤ 8 * k.val + (i.val - r.val) →
      q k (ix2 i j) = e (8 * k.val + (i.val - r.val) - 2)) :
    convB b w p q (ix2 r j) = b (ix2 0 j) + ∑ k : Fin 31, w k (ix2 0 j) * e k.val := by
  have g (k : Fin 4) (n : ℕ) (h) (h1 : 64 < n) (h2 : n < 72) (h3 : 2 ≤ 8 * k.val + (72 - n)) :
      q k (ix2 ⟨(r.val + 72 - n) % 72, h⟩ j) = e (8 * k.val + (72 - n) - 2) := by
    have hr := r.isLt
    have hm : (r.val + 72 - n) % 72 = r.val + (72 - n) := by omega
    rw [hq k _ (by dsimp only; omega) (by dsimp only; omega) (by dsimp only; omega)]
    congr 1
    dsimp only
    omega
  pointwise [convB, four, front, tap64, tap72]
  simp (disch := decide) only [hp, g]
  generalize hf : (fun k : Fin 31 => w k (ix2 0 j) * e k.val) = f
  rw [sum31 f]
  refine Eq.trans (b := b (ix2 0 j) + (f 6 + f 14 + f 22 + f 30) + (f 7 + f 15 + f 23) + (f 0 + f 8 + f 16 + f 24)
    + (f 1 + f 9 + f 17 + f 25) + (f 2 + f 10 + f 18 + f 26) + (f 3 + f 11 + f 19 + f 27) + (f 4 + f 12 + f 20 + f 28)
    + (f 5 + f 13 + f 21 + f 29)) ?_ ?_
  · subst hf; rfl
  · abel

/-- The block of three weights at an index. -/
theorem convA_apply (w : Fin 3 → Vec Ideal S1x128 .f32) (p : Vec Ideal S64x128 .f32) (q : Vec Ideal S72x128 .f32) (e : ℕ → EReal)
    (r : Fin 64) (j : Fin 128) (hp : p (ix2 r j) = e 2)
    (hq : ∀ i : Fin 72, r.val + 6 ≤ i.val → i.val < r.val + 8 → q (ix2 i j) = e (i.val - r.val - 6)) :
    convA w p q (ix2 r j) = ∑ k : Fin 3, w k (ix2 0 j) * e k.val := by
  have g (n : ℕ) (h) (h1 : 64 < n) (h2 : n < 67) : q (ix2 ⟨(r.val + 72 - n) % 72, h⟩ j) = e (66 - n) := by
    have hr := r.isLt
    have hm : (r.val + 72 - n) % 72 = r.val + (72 - n) := by omega
    rw [hq _ (by dsimp only; omega) (by dsimp only; omega)]
    congr 1
    dsimp only
    omega
  pointwise [convA, front, tap64, tap72]
  simp (disch := decide) only [hp, g]
  rw [Fin.sum_univ_three]
  show w 2 (ix2 0 j) * e 2 + w 0 (ix2 0 j) * e 0 + w 1 (ix2 0 j) * e 1 = w 0 (ix2 0 j) * e 0 + w 1 (ix2 0 j) * e 1 + w 2 (ix2 0 j) * e 2
  abel

end Cert.Mix
-- ==== Proof.MixStage.lean ====
/-
  What one step of the mixer writes in each buffer, piece by piece: the pieces' operations under names of our own, and the
  contents they make up, at an index, over the reals.
-/
module

public import proofs.«01_k».proof.Proof.MixConv
public import proofs.«01_k».proof.Proof.Gen.KernelIdeal.Frame

@[expose] public section

set_option maxRecDepth 65536

noncomputable section

namespace Cert.Mix

open Idealize.ShloMosaic Idealize.ShloMosaic.TcCoe Idealize.ShloMosaic.Tactic
open Cert.KernelIdeal Cert.KernelIdeal.Gen

/-! ## Pieces at an index -/

/-- The contents under a last piece, at an index in it; -/
theorem canon_hit {n m : ℕ} {e : EltTy} (o l a b : ℕ) (h0 : o + a ≤ n) (h1 : l + b ≤ m) (w : Vec Ideal ⟨2, ![a, b]⟩ e)
    (L : List (View.Piece (Elt Ideal) ⟨2, ![n, m]⟩ e)) (r : Fin n) (j : Fin m) (hr : o ≤ r.val ∧ r.val < o + a) (hj : l ≤ j.val ∧ j.val < l + b) :
    View.canon (⟨box o l a b h0 h1, w⟩ :: L) (ix2 r j) = w (ix2 ⟨r.val - o, by omega⟩ ⟨j.val - l, by omega⟩) := by
  refine Eq.trans (congrArg _ ?_) (View.canon_cons_emb (box o l a b h0 h1) w L (ix2 ⟨r.val - o, by omega⟩ ⟨j.val - l, by omega⟩))
  refine Eq.trans ?_ (box_emb o l a b h0 h1 _ _).symm
  congr 1
  · exact Fin.ext (by dsimp only; omega)
  · exact Fin.ext (by dsimp only; omega)

/-- and at an index off it. -/
theorem canon_miss {n m : ℕ} {e : EltTy} (o l a b : ℕ) (h0 : o + a ≤ n) (h1 : l + b ≤ m) (w : Vec Ideal ⟨2, ![a, b]⟩ e)
    (L : List (View.Piece (Elt Ideal) ⟨2, ![n, m]⟩ e)) (r : Fin n) (j : Fin m)
    (h : r.val < o ∨ o + a ≤ r.val ∨ j.val < l ∨ l + b ≤ j.val) :
    View.canon (⟨box o l a b h0 h1, w⟩ :: L) (ix2 r j) = View.canon L (ix2 r j) := by
  refine View.canon_cons_of_not_mem _ _ fun hm => ?_
  have hm : ix2 r j ∈ (Rect.unit (s := ⟨2, ![n, m]⟩) ![o, l] ![a, b] (fits h0 h1)).set := hm
  have hm := Rect.mem_set_unit.mp hm
  have ha : o ≤ r.val ∧ r.val < o + a := hm 0
  have hb : l ≤ j.val ∧ j.val < l + b := hm 1
  omega

/-- An index in a rectangle. -/
theorem mem_box {n m : ℕ} (o l a b : ℕ) (h0 : o + a ≤ n) (h1 : l + b ≤ m) (r : Fin n) (j : Fin m)
    (hr : o ≤ r.val ∧ r.val < o + a) (hj : l ≤ j.val ∧ j.val < l + b) : ix2 r j ∈ (box o l a b h0 h1).set :=
  Rect.mem_set_unit.mpr (Fin.forall_fin_two.mpr ⟨hr, hj⟩)

/-- A load after the pieces `L`, at an index. -/
theorem cov_apply {n m : ℕ} {e : EltTy} {sp : Space} (M : Memref sig .tc sp ⟨2, ![n, m]⟩ e) (L : List (View.Piece (Elt Ideal) ⟨2, ![n, m]⟩ e))
    (o l a b : ℕ) (h0 : o + a ≤ n) (h1 : l + b ≤ m) (r : Fin a) (j : Fin b) :
    M.view.readCov L (box o l a b h0 h1).toLoadRect (ix2 r j) = View.canon L (ix2 ⟨o + r.val, by omega⟩ ⟨l + j.val, by omega⟩) := by
  rw [View.readCov_eq_canon']
  exact congrArg (View.canon L) (box_emb o l a b h0 h1 r j)

/-! ## The operations -/

section ops

variable {F : FTy → Type} [FloatOps F]

/-- Normalised rows times 256 columns of the first weights. -/
def proj (u : Vec F S256x2048 .bf16) (w : Vec F S2048x256 .bf16) : FVec F S256x256 .f32 :=
  matmul dot_S256x2048_S2048x256_S256x256_1_0_0_1_n_n none u (shapeCast S2048x256 w shapeCasts_S2048x256_S2048x256) (constant S256x256 .f32 0x00000000#32)

/-- One projection times the other's logistic function. -/
def glu (u : Vec F S256x2048 .bf16) (v g : Vec F S2048x256 .bf16) : FVec F S256x256 .f32 :=
  shapeCast S256x256 (mulf (proj u v) (logistic (proj u g))) shapeCasts_S256x256_S256x256

/-- The product of two projections. -/
def prod (u : Vec F S256x2048 .bf16) (c v : Vec F S2048x256 .bf16) : FVec F S256x256 .f32 :=
  shapeCast S256x256 (mulf (proj u c) (proj u v)) shapeCasts_S256x256_S256x256

/-- A block of the convolution of three weights, gated. -/
def gated (b : FVec F S256x256 .f32) (o l : ℕ) (h : S256x256.Slices ![o, l] S64x128) (w : Fin 3 → Vec F S1x128 .f32)
    (p : Vec F S64x128 .f32) (q : Vec F S72x128 .f32) : FVec F S64x128 .bf16 :=
  shapeCast S64x128 (truncf .bf16 (mulf (extractStridedSlice S64x128 ![o, l] b h) (convA w p q)) bitsLt_bf16_f32) shapeCasts_S64x128_S64x128

end ops

theorem proj_apply (u : Vec Ideal S256x2048 .bf16) (w : Vec Ideal S2048x256 .bf16) (r j : Fin 256) :
    proj u w (ix2 r j) = ∑ k : Fin 2048, u (ix2 r k) * w (ix2 k j) := by
  pointwise [proj]

theorem glu_apply (u : Vec Ideal S256x2048 .bf16) (v g : Vec Ideal S2048x256 .bf16) (r j : Fin 256) :
    glu u v g (ix2 r j) = proj u v (ix2 r j) * Ideal.logistic (proj u g (ix2 r j)) := by
  pointwise [glu]

theorem prod_apply (u : Vec Ideal S256x2048 .bf16) (c v : Vec Ideal S2048x256 .bf16) (r j : Fin 256) :
    prod u c v (ix2 r j) = proj u c (ix2 r j) * proj u v (ix2 r j) := by
  pointwise [prod]

theorem gated_apply (b : FVec Ideal S256x256 .f32) (o l : ℕ) (ho : o + 64 ≤ 256) (hl : l + 128 ≤ 256) (h) (w : Fin 3 → Vec Ideal S1x128 .f32)
    (p : Vec Ideal S64x128 .f32) (q : Vec Ideal S72x128 .f32) (r : Fin 64) (j : Fin 128) :
    gated b o l h w p q (ix2 r j) = b (ix2 ⟨o + r.val, by omega⟩ ⟨l + j.val, by omega⟩) * convA w p q (ix2 r j) := by
  pointwise [gated]

/-! ## Words shifted out -/

/-- Sixteen bits and sixteen bits shifted out of 32 leave none. -/
theorem shifted_out {s : Shape} (t : IVec s 32) : shrui (shrui t (broadcast s 16#32)) (broadcast s 16#32) = fun _ => 0#32 := by
  funext x
  show IntOp.shrui .vector (IntOp.shrui .vector (t x) 16#32) 16#32 = 0#32
  unfold IntOp.shrui
  rw [if_pos (by decide), if_pos (by decide)]
  exact BitVec.eq_of_toNat_eq (by
    have := (t x).isLt
    simp only [BitVec.ushiftRight_eq', BitVec.toNat_ushiftRight, BitVec.toNat_ofNat, Nat.shiftRight_eq_div_pow,
      show 16 % 2 ^ 32 = 16 from rfl, show 2 ^ 16 = 65536 from rfl]
    omega)

/-- Zeros beside zeros are zeros. -/
theorem concat_zero (t : Shape) (a : Fin t.rank) (xs : List ((s : Shape) × (s.Idx → EReal)))
    (h : Shape.Concatenates (xs.map (·.1)) t a) (hz : ∀ p ∈ xs, ∀ i, p.2 i = 0) : concatenate t a xs h = fun _ => 0 :=
  funext fun j => concatenate_forall (P := fun z => z = 0) t a xs h hz j

/-! ## The pieces of one step -/

theorem slices_ok (o l : ℕ) (ho : o + 64 ≤ 256) (hl : l + 128 ≤ 256) : S256x256.Slices ![o, l] S64x128 :=
  ⟨rfl, Fin.forall_fin_two.mpr ⟨ho, hl⟩⟩

section lists

variable {F : FTy → Type} [FloatOps F]

/-- 256 columns of a fifth of the first weights. -/
def part (M : Memref sig .tc .vmem S2048x5120 .bf16) (hM : M.IsWhole) (x : Vec F S2048x5120 .bf16) (q : Fin 5) (n : ℕ) : Vec F S2048x256 .bf16 :=
  load M hM x 0 (1024 * q.val + 256 * (n % 4)) 2048 256 (by decide) (by omega)

/-- Eight blocks of 32 normalised rows. -/
def normList (M : Memref sig .tc .vmem S256x2048 .f32) (hM : M.IsWhole) (x : Vec F S256x2048 .f32)
    (N : Memref sig .tc .vmem S1x2048 .f32) (hN : N.IsWhole) (g : Vec F S1x2048 .f32) : List (View.Piece (Elt F) S256x2048 .bf16) :=
  List.ofFn fun k : Fin 8 => ⟨box (32 * (7 - k.val)) 0 32 2048 (by omega) (by decide),
    k0_pay11 (load M hM x (32 * (7 - k.val)) 0 32 2048 (by omega) (by decide)) (load N hN g 0 0 1 2048 (by decide) (by decide))⟩

variable (u : ℕ → Vec F S256x2048 .bf16) (w : Fin 5 → ℕ → Vec F S2048x256 .bf16)

/-- The rows that meet the gate's convolution, one chunk of columns. -/
def bodyA (n : ℕ) : View.Piece (Elt F) S264x1024 .f32 :=
  ⟨box 8 (256 * (n % 4)) 256 256 (by decide) (by omega), prod (u n) (w 1 n) (w 2 n)⟩

/-- The pieces of the buffer of the convolution of three weights after `n` chunks. -/
def listA (M : Memref sig .tc .vmem S264x1024 .f32) (p : Vec F S8x1024 .f32) (T : List (View.Piece (Elt F) S264x1024 .f32)) :
    ℕ → List (View.Piece (Elt F) S264x1024 .f32)
  | 0 => ⟨box 0 0 8 1024 (by decide) (by decide), p⟩ :: T
  | n + 1 => ⟨box 0 (256 * (n % 4)) 8 256 (by decide) (by omega),
      shapeCast S8x256 (M.view.readCov (bodyA u w n :: listA M p T n) (box 256 (256 * (n % 4)) 8 256 (by decide) (by omega)).toLoadRect) shapeCasts_S8x256_S8x256⟩
      :: bodyA u w n :: listA M p T n

/-- The pieces of the buffer of the convolution of 31 weights after `n` chunks. -/
def listB (hb : ℕ → Vec F S32x256 .f32) (T : List (View.Piece (Elt F) S288x1024 .f32)) : ℕ → List (View.Piece (Elt F) S288x1024 .f32)
  | 0 => T
  | n + 1 => ⟨box 32 (256 * (n % 4)) 256 256 (by decide) (by omega), glu (u n) (w 3 n) (w 4 n)⟩
      :: ⟨box 0 (256 * (n % 4)) 32 256 (by decide) (by omega), hb n⟩ :: listB hb T n

/-- The 32 gated blocks. -/
def gatedList (M : Memref sig .tc .vmem S264x1024 .f32) (L : ℕ → List (View.Piece (Elt F) S264x1024 .f32))
    (N : Memref sig .tc .vmem S3x1024 .f32) (hN : N.IsWhole) (a : Vec F S3x1024 .f32) : List (View.Piece (Elt F) S256x2048 .bf16) :=
  List.ofFn fun k : Fin 32 => ⟨box (64 * (3 - k.val % 4)) (128 * (7 - k.val / 4)) 64 128 (by omega) (by omega),
    gated (proj (u ((7 - k.val / 4) / 2)) (w 0 ((7 - k.val / 4) / 2))) (64 * (3 - k.val % 4)) (128 * ((7 - k.val / 4) % 2))
      (slices_ok _ _ (by omega) (by omega))
      (fun t => load N hN a t.val (128 * (7 - k.val / 4)) 1 128 (by omega) (by omega))
      (M.view.readCov (L ((7 - k.val / 4) / 2)) (box (64 * (3 - k.val % 4) + 8) (128 * (7 - k.val / 4)) 64 128 (by omega) (by omega)).toLoadRect)
      (M.view.readCov (L ((7 - k.val / 4) / 2)) (box (64 * (3 - k.val % 4)) (128 * (7 - k.val / 4)) 72 128 (by omega) (by omega)).toLoadRect)⟩

/-- Eight blocks of 32 rows on the right half. -/
def rightList (P : Fin 8 → Vec F S32x1024 .bf16) : List (View.Piece (Elt F) S256x2048 .bf16) :=
  List.ofFn fun k : Fin 8 => ⟨box (32 * (7 - k.val)) 1024 32 1024 (by omega) (by decide), P k⟩

end lists

/-! ## The contents they make up -/

section values

variable (u : ℕ → Vec Ideal S256x2048 .bf16) (w : Fin 5 → ℕ → Vec Ideal S2048x256 .bf16)

/-- The products of two projections, at row `R`, column `j` of 1024. -/
def prodAt (R : Fin 256) (j : Fin 1024) : EReal :=
  prod (u (j.val / 256)) (w 1 (j.val / 256)) (w 2 (j.val / 256)) (ix2 R ⟨j.val % 256, Nat.mod_lt _ (by decide)⟩)

variable (M : Memref sig .tc .vmem S264x1024 .f32) (p : Vec Ideal S8x1024 .f32) (T : List (View.Piece (Elt Ideal) S264x1024 .f32))

/-- Above a chunk's rows lies what was there before the step. -/
theorem listA_above (r : Fin 264) (hr : r.val < 8) (j : Fin 1024) :
    ∀ n ≤ 4, 256 * n ≤ j.val → View.canon (listA u w M p T n) (ix2 r j) = p (ix2 ⟨r.val, hr⟩ j) := by
  intro n
  induction n with
  | zero => intro _ _; exact canon_hit 0 0 8 1024 _ _ p T r j (by omega) (by omega)
  | succ n ih =>
    intro hn hj
    have hm : n % 4 = n := Nat.mod_eq_of_lt (by omega)
    refine (canon_miss _ _ 8 256 _ _ _ _ r j (by omega)).trans ?_
    exact (canon_miss _ _ 256 256 _ _ _ _ r j (by omega)).trans (ih (by omega) (by omega))

/-- What the convolution of a chunk finds in the chunk's columns. -/
theorem listA_chunk (r : Fin 264) (j : Fin 1024) :
    View.canon (bodyA u w (j.val / 256) :: listA u w M p T (j.val / 256)) (ix2 r j)
      = if h : r.val < 8 then p (ix2 ⟨r.val, h⟩ j) else prodAt u w ⟨r.val - 8, by omega⟩ j := by
  have hm : j.val / 256 % 4 = j.val / 256 := Nat.mod_eq_of_lt (by omega)
  split
  · rename_i h
    refine (canon_miss _ _ 256 256 _ _ _ _ r j (by omega)).trans ?_
    exact listA_above u w M p T r h j _ (by omega) (by omega)
  · refine (canon_hit _ _ 256 256 _ _ _ _ r j (by omega) (by omega)).trans ?_
    unfold prodAt
    congr 2
    exact Fin.ext (by dsimp only; omega)

/-- After a chunk its last rows lie above. -/
theorem listA_after (r : Fin 264) (hr : r.val < 8) (j : Fin 1024) :
    ∀ n ≤ 4, j.val < 256 * n → View.canon (listA u w M p T n) (ix2 r j) = prodAt u w ⟨248 + r.val, by omega⟩ j := by
  intro n
  induction n with
  | zero => intro _ h; omega
  | succ n ih =>
    intro hn hj
    have hm : n % 4 = n := Nat.mod_eq_of_lt (by omega)
    by_cases h : j.val < 256 * n
    · refine (canon_miss _ _ 8 256 _ _ _ _ r j (by omega)).trans ?_
      exact (canon_miss _ _ 256 256 _ _ _ _ r j (by omega)).trans (ih (by omega) (by omega))
    · have hn : n = j.val / 256 := by omega
      refine (canon_hit _ _ 8 256 _ _ _ _ r j (by omega) (by omega)).trans ?_
      refine (congrFun (shapeCast_id _ _) _).trans ?_
      refine (cov_apply M _ _ _ 8 256 _ _ _ _).trans ?_
      have e : ∀ h1 h2, (ix2 ⟨256 + (r.val - 0), h1⟩ ⟨256 * (n % 4) + (j.val - 256 * (n % 4)), h2⟩ : S264x1024.Idx) = ix2 ⟨256 + r.val, by omega⟩ j := by
        intro h1 h2
        congr 1
        exact Fin.ext (by dsimp only; omega)
      refine (congrArg _ (e _ _)).trans ?_
      subst hn
      refine (listA_chunk u w M p T _ j).trans ?_
      rw [dif_neg (by dsimp only; omega)]
      congr 2
      show 256 + r.val - 8 = 248 + r.val
      omega

variable (hb : ℕ → Vec Ideal S32x256 .f32) (S : List (View.Piece (Elt Ideal) S288x1024 .f32))

/-- The buffer of the convolution of 31 weights. -/
theorem listB_apply (r : Fin 288) (j : Fin 1024) : ∀ n ≤ 4, j.val < 256 * n → View.canon (listB u w hb S n) (ix2 r j)
    = if h : r.val < 32 then hb (j.val / 256) (ix2 ⟨r.val, h⟩ ⟨j.val % 256, Nat.mod_lt _ (by decide)⟩)
      else glu (u (j.val / 256)) (w 3 (j.val / 256)) (w 4 (j.val / 256)) (ix2 ⟨r.val - 32, by omega⟩ ⟨j.val % 256, Nat.mod_lt _ (by decide)⟩) := by
  intro n
  induction n with
  | zero => intro _ h; omega
  | succ n ih =>
    intro hn hj
    have hm : n % 4 = n := Nat.mod_eq_of_lt (by omega)
    by_cases h : j.val < 256 * n
    · refine (canon_miss _ _ 256 256 _ _ _ _ r j (by omega)).trans ?_
      exact (canon_miss _ _ 32 256 _ _ _ _ r j (by omega)).trans (ih (by omega) (by omega))
    · have hn : n = j.val / 256 := by omega
      have hj : j.val % 256 = j.val - 256 * (n % 4) := by omega
      split
      · rename_i hr
        refine (canon_miss _ _ 256 256 _ _ _ _ r j (by omega)).trans ?_
        refine (canon_hit _ _ 32 256 _ _ _ _ r j (by omega) (by omega)).trans ?_
        rw [← hn]
        congr 2
        exact Fin.ext hj.symm
      · refine (canon_hit _ _ 256 256 _ _ _ _ r j (by omega) (by omega)).trans ?_
        rw [← hn]
        congr 2
        exact Fin.ext hj.symm

/-- The rows that meet the gate's convolution. -/
def rowA (r : Fin 264) (j : Fin 1024) : EReal := if h : r.val < 8 then p (ix2 ⟨r.val, h⟩ j) else prodAt u w ⟨r.val - 8, by omega⟩ j

/-- The gated convolution of three weights. -/
def gatedAt (a : Vec Ideal S3x1024 .f32) (R : Fin 256) (j : Fin 1024) : EReal :=
  proj (u (j.val / 256)) (w 0 (j.val / 256)) (ix2 R ⟨j.val % 256, Nat.mod_lt _ (by decide)⟩)
    * ∑ k : Fin 3, a (ix2 k j) * rowA u w p ⟨R.val + k.val + 6, by omega⟩ j

variable (N : Memref sig .tc .vmem S3x1024 .f32) (hN : N.IsWhole) (a : Vec Ideal S3x1024 .f32)

theorem gated_piece (o l n : ℕ) (ho : o + 64 ≤ 256) (hl : 128 * l + 128 ≤ 1024) (hn : n = l / 2) (hs) (h2 h3 h4 h5) (r : Fin 64) (i : Fin 128) :
    gated (proj (u n) (w 0 n)) o (128 * (l % 2)) hs (fun t => load N hN a t.val (128 * l) 1 128 (by omega) h2)
      (M.view.readCov (bodyA u w n :: listA u w M p T n) (box (o + 8) (128 * l) 64 128 h3 h5).toLoadRect)
      (M.view.readCov (bodyA u w n :: listA u w M p T n) (box o (128 * l) 72 128 h4 h5).toLoadRect) (ix2 r i)
    = gatedAt u w p a ⟨o + r.val, by omega⟩ ⟨128 * l + i.val, by omega⟩ := by
  have hq : n = (128 * l + i.val) / 256 := by omega
  have hz (k : ℕ) : o + r.val + (if k < 3 then k else 0) + 6 < 264 := by split <;> omega
  have hr (R : Fin 264) : View.canon (bodyA u w n :: listA u w M p T n) (ix2 R ⟨128 * l + i.val, by omega⟩) = rowA u w p R ⟨128 * l + i.val, by omega⟩ := by
    subst hq
    exact listA_chunk u w M p T R ⟨128 * l + i.val, by omega⟩
  rw [gated_apply _ _ _ ho (by omega)]
  unfold gatedAt
  refine congrArg₂ (· * ·) ?_ ?_
  · subst hq
    congr 2
    exact Fin.ext (by dsimp only; omega)
  · refine (convA_apply _ _ _ (fun k => rowA u w p ⟨o + r.val + (if k < 3 then k else 0) + 6, hz k⟩ ⟨128 * l + i.val, by omega⟩) r i ?_ ?_).trans ?_
    · refine (cov_apply M _ _ _ 64 128 _ _ r i).trans ((hr _).trans ?_)
      congr 2
      rw [if_pos (by decide)]; omega
    · intro k h1 h2
      refine (cov_apply M _ _ _ 72 128 _ _ k i).trans ((hr _).trans ?_)
      congr 2
      rw [if_pos (by omega)]; omega
    · refine Finset.sum_congr rfl fun k _ => congrArg₂ (· * ·) ?_ ?_
      · refine (load_apply N hN a k.val (128 * l) 1 128 _ _ 0 i).trans ?_
        congr 2
      · dsimp only
        congr 2
        rw [if_pos k.isLt]

/-- The left half of the buffer of both convolutions' results. -/
theorem gated_left (U : List (View.Piece (Elt Ideal) S256x2048 .bf16)) (R : Fin 256) (j : Fin 1024) :
    View.canon (gatedList u w M (fun n => bodyA u w n :: listA u w M p T n) N hN a ++ U) (ix2 R ⟨j.val, by omega⟩) = gatedAt u w p a R j := by
  let G : S256x2048.Idx → EReal := fun y => if h : (y 1).val < 1024 then gatedAt u w p a (y 0) ⟨(y 1).val, h⟩ else 0
  refine (View.canon_append_of_pieces (Val := Elt Ideal) (e := .bf16) G U _ ?_ (ix2 R ⟨j.val, by omega⟩) ?_).trans ?_
  · refine (List.forall_mem_ofFn_iff (P := fun q : View.Piece (Elt Ideal) S256x2048 .bf16 => ∀ x : q.1.shape.Idx, q.2 x = G (q.1.emb x))).mpr fun k x => ?_
    obtain ⟨r, i, rfl⟩ := eq_ix2 (a := 64) (b := 128) x
    refine (gated_piece u w M p T N hN a (64 * (3 - k.val % 4)) (7 - k.val / 4) _ (by omega) (by omega) rfl (slices_ok _ _ (by omega) (by omega)) (by omega) (by omega) (by omega) (by omega) r i).trans ?_
    refine Eq.trans ?_ (congrArg G (box_emb (n := 256) (m := 2048) (64 * (3 - k.val % 4)) (128 * (7 - k.val / 4)) 64 128 (by omega) (by omega) r i)).symm
    have hj : 128 * (7 - k.val / 4) + i.val < 1024 := by omega
    show _ = (if h : 128 * (7 - k.val / 4) + i.val < 1024 then
      gatedAt u w p a (⟨64 * (3 - k.val % 4) + r.val, by omega⟩ : Fin 256) ⟨128 * (7 - k.val / 4) + i.val, h⟩ else 0)
    rw [dif_pos hj]
  · refine ⟨_, (List.mem_ofFn' _ _).mpr ⟨⟨31 - (j.val / 128 * 4 + R.val / 64), by omega⟩, rfl⟩, ?_⟩
    exact mem_box _ _ 64 128 (by dsimp only; omega) (by dsimp only; omega) R _ (by dsimp only; omega) (by dsimp only; omega)
  · exact dif_pos j.isLt

/-- Pieces elsewhere leave an index as it was. -/
theorem canon_skip {s : Shape} {e : EltTy} (L : List (View.Piece (Elt Ideal) s e)) (y : s.Idx) :
    ∀ K : List (View.Piece (Elt Ideal) s e), (∀ q ∈ K, y ∉ q.1.set) → View.canon (K ++ L) y = View.canon L y
  | [], _ => rfl
  | q :: K, h => (View.canon_cons_of_not_mem q (K ++ L) (h q (by simp))).trans (canon_skip L y K fun q' hq => h q' (by simp [hq]))

variable (P : Fin 8 → Vec Ideal S32x1024 .bf16) (U : List (View.Piece (Elt Ideal) S256x2048 .bf16))

theorem right_left (R : Fin 256) (j : Fin 1024) :
    View.canon (rightList P ++ U) (ix2 R ⟨j.val, by omega⟩) = View.canon U (ix2 R ⟨j.val, by omega⟩) := by
  refine canon_skip U _ _ ((List.forall_mem_ofFn_iff (P := fun q : View.Piece (Elt Ideal) S256x2048 .bf16 => _ ∉ q.1.set)).mpr fun k hm => ?_)
  have hm : ix2 R (⟨j.val, by omega⟩ : Fin 2048) ∈ (Rect.unit (s := S256x2048) ![32 * (7 - k.val), 1024] ![32, 1024] (fits (by omega) (by omega))).set := hm
  have h1 : 1024 ≤ j.val ∧ j.val < 1024 + 1024 := Rect.mem_set_unit.mp hm 1
  omega

theorem right_right (R : Fin 256) (j : Fin 1024) :
    View.canon (rightList P ++ U) (ix2 R ⟨1024 + j.val, by omega⟩) = P ⟨7 - R.val / 32, by omega⟩ (ix2 ⟨R.val % 32, Nat.mod_lt _ (by decide)⟩ j) := by
  let G : S256x2048.Idx → EReal := fun y => P ⟨7 - (y 0).val / 32, by omega⟩ (ix2 ⟨(y 0).val % 32, Nat.mod_lt _ (by decide)⟩ ⟨(y 1).val % 1024, Nat.mod_lt _ (by decide)⟩)
  refine (View.canon_append_of_pieces (Val := Elt Ideal) (e := .bf16) G U _ ?_ (ix2 R ⟨1024 + j.val, by omega⟩) ?_).trans ?_
  · refine (List.forall_mem_ofFn_iff (P := fun q : View.Piece (Elt Ideal) S256x2048 .bf16 => ∀ x : q.1.shape.Idx, q.2 x = G (q.1.emb x))).mpr fun k x => ?_
    obtain ⟨r, i, rfl⟩ := eq_ix2 (a := 32) (b := 1024) x
    refine Eq.trans ?_ (congrArg G (box_emb (n := 256) (m := 2048) (32 * (7 - k.val)) 1024 32 1024 (by omega) (by omega) r i)).symm
    show P k (ix2 r i) = P ⟨7 - (32 * (7 - k.val) + r.val) / 32, _⟩ (ix2 ⟨(32 * (7 - k.val) + r.val) % 32, _⟩ ⟨(1024 + i.val) % 1024, _⟩)
    congr 2
    · exact Fin.ext (by dsimp only; omega)
    · exact Fin.ext (by dsimp only; omega)
    · exact Fin.ext (by dsimp only; omega)
  · refine ⟨_, (List.mem_ofFn' _ _).mpr ⟨⟨7 - R.val / 32, by omega⟩, rfl⟩, ?_⟩
    exact mem_box _ _ 32 1024 (by dsimp only; omega) (by omega) R _ (by dsimp only; omega) (by dsimp only; omega)
  · show P ⟨7 - R.val / 32, _⟩ (ix2 ⟨R.val % 32, _⟩ ⟨(1024 + j.val) % 1024, _⟩) = _
    congr 2
    exact Fin.ext (by dsimp only; omega)

end values

/-! ## Rows normalised, rows put out -/

/-- The factor that scales a row of 2048 to unit mean square, from the sum of the row's squares. -/
def rowScale (s : EReal) : EReal :=
  Ideal.rsqrt (Ideal.div s (Ideal.ofBits .f32 0x45000000#32) + Ideal.ofBits .f32 0x358637BD#32)

theorem pay11_apply (x : Vec Ideal S32x2048 .f32) (g : Vec Ideal S1x2048 .f32) (r : Fin 32) (j : Fin 2048) :
    k0_pay11 x g (ix2 r j) = x (ix2 r j) * rowScale (∑ k : Fin 2048, x (ix2 r k) * x (ix2 r k)) * g (ix2 0 j) := by
  pointwise [k0_pay11, rowScale]

/-- A row of 1024 less its mean. -/
def centred (g : Fin 1024 → EReal) (j : Fin 1024) : EReal := g j - Ideal.div (∑ k, g k) (Ideal.ofBits .f32 0x44800000#32)

/-- A row of 1024 normalised, with gain and bias. -/
def lnorm (g a b : Fin 1024 → EReal) (j : Fin 1024) : EReal :=
  centred g j * Ideal.rsqrt (Ideal.div (∑ k, centred g k * centred g k) (Ideal.ofBits .f32 0x44800000#32) + Ideal.ofBits .f32 0x358637BD#32) * a j + b j

theorem pay644_apply (g : Vec Ideal S32x1024 .f32) (a b : Vec Ideal S1x1024 .f32) (r : Fin 32) (j : Fin 1024) :
    k0_pay644 g a b (ix2 r j) = lnorm (fun k => g (ix2 r k)) (fun k => a (ix2 0 k)) (fun k => b (ix2 0 k)) j
      * Ideal.logistic (lnorm (fun k => g (ix2 r k)) (fun k => a (ix2 0 k)) (fun k => b (ix2 0 k)) j) := by
  pointwise [k0_pay644, lnorm, centred]

theorem pay1_apply (oa : Vec Ideal S256x2048 .f32) (y : Vec Ideal S256x1024 .bf16) (w : Vec Ideal S1024x2048 .bf16) (x : Vec Ideal S256x2048 .f32)
    (g : Vec Ideal S1x2048 .f32) (o : Fin 2048 → EReal) (r : Fin 256) (j : Fin 2048)
    (ho : ∀ i, oa (ix2 r i) + ∑ k : Fin 1024, y (ix2 r k) * w (ix2 k i) = o i) :
    k0_pay1 oa y w x g (ix2 r j) = x (ix2 r j) + o j * rowScale (∑ k : Fin 2048, o k * o k) * g (ix2 0 j) := by
  pointwise [k0_pay1, rowScale]
  simp only [ho]

variable (M : Memref sig .tc .vmem S256x2048 .f32) (hM : M.IsWhole) (x : Vec Ideal S256x2048 .f32)
  (N : Memref sig .tc .vmem S1x2048 .f32) (hN : N.IsWhole) (g : Vec Ideal S1x2048 .f32)

/-- A block of normalised rows. -/
def normRows (x : Vec Ideal S256x2048 .f32) (g : Vec Ideal S1x2048 .f32) : Vec Ideal S256x2048 .bf16 :=
  fun y => x y * rowScale (∑ k : Fin 2048, x (ix2 (y 0) k) * x (ix2 (y 0) k)) * g (ix2 0 (y 1))

theorem normList_canon : View.canon (normList M hM x N hN g) = normRows x g := by
  funext y
  refine View.canon_apply_of_pieces (Val := Elt Ideal) (e := .bf16) (normRows x g) _ ?_ y ?_
  · refine (List.forall_mem_ofFn_iff (P := fun q : View.Piece (Elt Ideal) S256x2048 .bf16 => ∀ x' : q.1.shape.Idx, q.2 x' = normRows x g (q.1.emb x'))).mpr fun k x' => ?_
    obtain ⟨r, i, rfl⟩ := eq_ix2 (a := 32) (b := 2048) x'
    refine Eq.trans ?_ (congrArg (normRows x g) (box_emb (n := 256) (m := 2048) (32 * (7 - k.val)) 0 32 2048 (by omega) (by omega) r i)).symm
    refine (pay11_apply _ _ r i).trans ?_
    have hx (i : Fin 2048) : load M hM x (32 * (7 - k.val)) 0 32 2048 (by omega) (by decide) (ix2 r i) = x (ix2 ⟨32 * (7 - k.val) + r.val, by omega⟩ i) := by
      refine (load_apply M hM x _ 0 32 2048 _ _ r i).trans ?_
      congr 2
      exact Fin.ext (Nat.zero_add _)
    have hg : load N hN g 0 0 1 2048 (by decide) (by decide) (ix2 0 i) = g (ix2 0 i) := by
      refine (load_apply N hN g 0 0 1 2048 _ _ 0 i).trans ?_
      congr 2
      exact Fin.ext (Nat.zero_add _)
    have hi : (⟨0 + i.val, by omega⟩ : Fin 2048) = i := Fin.ext (Nat.zero_add _)
    simp only [hx, hg, hi]
    rfl
  · obtain ⟨R, j, rfl⟩ := eq_ix2 (a := 256) (b := 2048) y
    refine ⟨_, (List.mem_ofFn' _ _).mpr ⟨⟨7 - R.val / 32, by omega⟩, rfl⟩, ?_⟩
    exact mem_box _ _ 32 2048 (by dsimp only; omega) (by omega) R _ (by dsimp only; omega) (by omega)

/-! ## A value and its token -/

theorem uitofp_zero {s : Shape} (t : IVec s 32) :
    (uitofp .f32 (shrui (shrui t (broadcast s 16#32)) (broadcast s 16#32)) : FVec Ideal s .f32) = fun _ => 0 := by
  rw [shifted_out]
  funext x
  show ((0 : ℕ) : EReal) = 0
  exact Nat.cast_zero

section spread

variable {F : FTy → Type} [FloatOps F]

/-- Eight rows of a vector, repeated down 256 rows. -/
def down (z : FVec F S8x128 .f32) : FVec F S256x128 .f32 :=
  concatenate S256x128 0 (List.replicate 32 ⟨S8x128, z⟩) (by rw [List.map_replicate]; dsimp only; decide)

/-- Repeated across 2048 columns, and across 1024. -/
def across (z : FVec F S8x128 .f32) : FVec F S256x2048 .f32 :=
  concatenate S256x2048 1 (List.replicate 16 ⟨S256x128, down z⟩) (by rw [List.map_replicate]; dsimp only; decide)

def halfAcross (z : FVec F S8x128 .f32) : FVec F S256x1024 .f32 :=
  concatenate S256x1024 1 (List.replicate 8 ⟨S256x128, down z⟩) (by rw [List.map_replicate]; dsimp only; decide)

end spread

theorem down_zero : down (F := Ideal) (fun _ => 0) = fun _ => 0 :=
  concat_zero _ _ _ _ fun p hp i => by obtain rfl := List.eq_of_mem_replicate hp; rfl

theorem across_zero : across (F := Ideal) (fun _ => 0) = fun _ => 0 :=
  concat_zero _ _ _ _ fun p hp i => by obtain rfl := List.eq_of_mem_replicate hp; exact congrFun down_zero i

theorem halfAcross_zero : halfAcross (F := Ideal) (fun _ => 0) = fun _ => 0 :=
  concat_zero _ _ _ _ fun p hp i => by obtain rfl := List.eq_of_mem_replicate hp; exact congrFun down_zero i

/-- A value with a token of no bits added is the value. -/
theorem after_eq (t : IVec S8x128 32) (v : Vec Ideal S256x2048 .bf16) :
    shapeCast S256x2048 (addf v (truncf .bf16 (across (F := Ideal) (uitofp .f32 (shrui (shrui t (broadcast S8x128 16#32)) (broadcast S8x128 16#32)))) bitsLt_bf16_f32))
      shapeCasts_S256x2048_S256x2048 = v := by
  rw [uitofp_zero, across_zero, shapeCast_id]
  funext x
  exact add_zero (v x)

theorem half_after_eq (t : IVec S8x128 32) (v : Vec Ideal S256x1024 .bf16) :
    addf v (truncf .bf16 (halfAcross (F := Ideal) (uitofp .f32 (shrui (shrui t (broadcast S8x128 16#32)) (broadcast S8x128 16#32)))) bitsLt_bf16_f32) = v := by
  rw [uitofp_zero, halfAcross_zero]
  funext x
  exact add_zero (v x)

theorem pay144_eq (a b) (v : Vec Ideal S256x2048 .bf16) : k0_pay144 (F := Ideal) a b v = v := after_eq _ v
theorem pay310_eq (a b) (v : Vec Ideal S256x2048 .bf16) : k0_pay310 (F := Ideal) a b v = v := after_eq _ v
theorem pay453_eq (a b c d) (v : Vec Ideal S256x2048 .bf16) : k0_pay453 (F := Ideal) a b c d v = v := after_eq _ v
theorem pay621_eq (a b c d) (v : Vec Ideal S256x2048 .bf16) : k0_pay621 (F := Ideal) a b c d v = v := after_eq _ v

theorem pay39_apply (y : Vec Ideal S256x1024 .bf16) (t : IVec S8x128 32) (w : Vec Ideal S1024x2048 .bf16) (r : Fin 256) (j : Fin 2048) :
    k0_pay39 (F := Ideal) y (shrui t (broadcast S8x128 16#32)) w (ix2 r j) = ∑ k : Fin 1024, y (ix2 r k) * w (ix2 k j) := by
  have e : k0_pay39 (F := Ideal) y (shrui t (broadcast S8x128 16#32)) w
      = shapeCast S256x2048 (matmul dot_S256x1024_S1024x2048_S256x2048_1_0_0_1_n_n none
        (addf y (truncf .bf16 (halfAcross (F := Ideal) (uitofp .f32 (shrui (shrui t (broadcast S8x128 16#32)) (broadcast S8x128 16#32)))) bitsLt_bf16_f32))
        (shapeCast S1024x2048 w shapeCasts_S1024x2048_S1024x2048) (constant S256x2048 .f32 0x00000000#32)) shapeCasts_S256x2048_S256x2048 := rfl
  rw [e, half_after_eq]
  pointwise

end Cert.Mix
-- ==== Proof.MixConvB.lean ====
/-
  The convolution of 31 weights over the rows the kernel holds: the 32 blocks of 64 rows by 128 columns that a step writes,
  as one array.
-/
module

public import proofs.«01_k».proof.Proof.MixStage
public import proofs.«01_k».proof.Proof.Gen.KernelIdeal.Frame

@[expose] public section

set_option maxRecDepth 65536

noncomputable section

namespace Cert.Mix

open Idealize.ShloMosaic Idealize.ShloMosaic.TcCoe Idealize.ShloMosaic.Tactic
open Cert.KernelIdeal Cert.KernelIdeal.Gen

/-- The convolution of 31 weights over the held rows: the bias and, for each weight, the row it meets. -/
def convRows (X : Vec Ideal S288x1024 .f32) (w : Vec Ideal S31x1024 .f32) (b : Vec Ideal S1x1024 .f32) : Vec Ideal S256x1024 .f32 :=
  fun y => b (ix2 0 (y 1)) + ∑ k : Fin 31, w (ix2 k (y 1)) * X (ix2 ⟨(y 0).val + k.val + 2, by have h : (y 0).val < 256 := (y 0).isLt; show _ < 288; omega⟩ (y 1))

variable (c : Dev nD) (arg6 : Memref sig .tc .vmem S31x1024 .f32) (harg6 : arg6.IsWhole)
  (arg7 : Memref sig .tc .vmem S1x1024 .f32) (harg7 : arg7.IsWhole) (arg20 : Memref sig .tc .vmem S288x1024 .f32) (harg20 : arg20.IsWhole)

/-- The block a step writes at row `o`, column `l`. -/
def blockB {F : FTy → Type} [FloatOps F] (x5 : Vec F S31x1024 .f32) (x6 : Vec F S1x1024 .f32) (xs3 : Vec F S288x1024 .f32)
    (o l : ℕ) (ho : o + 64 ≤ 256) (hl : l + 128 ≤ 1024) : FVec F S64x128 .f32 := shapeCast S64x128
    (convB (load arg7 harg7 x6 0 l 1 128 (by decide) hl)
      (fun k => load arg6 harg6 x5 k.val l 1 128 (by omega) hl)
      (fun k => load arg20 harg20 xs3 (o + 8 * (k.val + 1)) l 64 128 (by omega) hl)
      (fun k => load arg20 harg20 xs3 (o + 8 * k.val) l 72 128 (by omega) hl))
    shapeCasts_S64x128_S64x128

/-- The 32 blocks. -/
def gcList {F : FTy → Type} [FloatOps F] (x5 : Vec F S31x1024 .f32) (x6 : Vec F S1x1024 .f32) (xs3 : Vec F S288x1024 .f32) :
    List (View.Piece (Elt F) S256x1024 .f32) :=
  List.ofFn fun k : Fin 32 => ⟨box (64 * (3 - k.val % 4)) (128 * (7 - k.val / 4)) 64 128 (by omega) (by omega),
    blockB arg6 harg6 arg7 harg7 arg20 harg20 x5 x6 xs3 (64 * (3 - k.val % 4)) (128 * (7 - k.val / 4)) (by omega) (by omega)⟩

theorem gc_word {F : FTy → Type} [FloatOps F] (x5 : Vec F S31x1024 .f32) (x6 : Vec F S1x1024 .f32) (xs3 : Vec F S288x1024 .f32) :
    kernelRun0_B.sl.HS4_32 c arg6 harg6 arg7 harg7 arg20 harg20 x5 x6 xs3 = gcList arg6 harg6 arg7 harg7 arg20 harg20 x5 x6 xs3 := by
  sl_kernel_rfl

variable (x5 : Vec Ideal S31x1024 .f32) (x6 : Vec Ideal S1x1024 .f32) (xs3 : Vec Ideal S288x1024 .f32)

theorem blockB_apply (o l : ℕ) (ho : o + 64 ≤ 256) (hl : l + 128 ≤ 1024) (x : S64x128.Idx) :
    blockB arg6 harg6 arg7 harg7 arg20 harg20 x5 x6 xs3 o l ho hl x
    = convRows xs3 x5 x6 ((box (n := 256) (m := 1024) o l 64 128 ho hl).emb x) := by
  obtain ⟨r, j, rfl⟩ := eq_ix2 x
  have hz (k : ℕ) : o + r.val + (if k < 31 then k else 0) + 2 < 288 := by split <;> omega
  unfold blockB
  rw [shapeCast_id]
  refine (convB_apply _ _ _ _ (fun k => xs3 (ix2 ⟨o + r.val + (if k < 31 then k else 0) + 2, hz k⟩ ⟨l + j.val, by omega⟩)) r j ?_ ?_).trans ?_
  · intro k
    refine (load_apply arg20 harg20 xs3 _ l 64 128 _ hl r j).trans ?_
    congr 3
    rw [if_pos (by omega)]; omega
  · intro k i h1 h2 h3
    refine (load_apply arg20 harg20 xs3 _ l 72 128 _ hl i j).trans ?_
    congr 3
    rw [if_pos (by omega)]; omega
  · refine Eq.trans ?_ (congrArg (convRows xs3 x5 x6) (box_emb o l 64 128 ho hl r j).symm)
    unfold convRows
    refine congrArg₂ (· + ·) ?_ (Finset.sum_congr rfl fun k _ => congrArg₂ (· * ·) ?_ ?_)
    · exact load_apply arg7 harg7 x6 0 l 1 128 _ hl 0 j
    · exact load_apply arg6 harg6 x5 k.val l 1 128 _ hl 0 j
    · dsimp only
      congr 3
      rw [if_pos k.isLt]
      rfl

/-- The blocks make up the convolution. -/
theorem gc_canon : View.canon (gcList arg6 harg6 arg7 harg7 arg20 harg20 x5 x6 xs3) = convRows xs3 x5 x6 := by
  funext y
  refine View.canon_apply_of_pieces (Val := Elt Ideal) (e := .f32) (convRows xs3 x5 x6) _ ?_ y ?_
  · exact (List.forall_mem_ofFn_iff (P := fun q : View.Piece (Elt Ideal) S256x1024 .f32 => ∀ x' : q.1.shape.Idx, q.2 x' = convRows xs3 x5 x6 (q.1.emb x'))).mpr
      fun k x' => blockB_apply arg6 harg6 arg7 harg7 arg20 harg20 x5 x6 xs3 (64 * (3 - k.val % 4)) (128 * (7 - k.val / 4)) (by omega) (by omega) x'
  · obtain ⟨R, j, rfl⟩ := eq_ix2 (a := 256) (b := 1024) y
    refine ⟨_, (List.mem_ofFn' _ _).mpr ⟨⟨31 - (j.val / 128 * 4 + R.val / 64), by omega⟩, rfl⟩, ?_⟩
    exact mem_box _ _ 64 128 (by dsimp only; omega) (by dsimp only; omega) R _ (by dsimp only; omega) (by dsimp only; omega)

end Cert.Mix
-- ==== Proof.MixWordsA.lean ====
/-
  The pieces the first step of the mixer writes, as the lists of MixStage.
-/
module

public import proofs.«01_k».proof.Proof.MixConvB
public import proofs.«01_k».proof.Proof.Gen.KernelIdeal.Frame

@[expose] public section

set_option maxRecDepth 65536

noncomputable section

namespace Cert.Mix

open Idealize.ShloMosaic Idealize.ShloMosaic.TcCoe Idealize.ShloMosaic.Tactic
open Cert.KernelIdeal Cert.KernelIdeal.Gen

section words

variable {F : FTy → Type} [FloatOps F]
variable (c : Dev nD) (i : grid0.Coords) (arg1 : Memref sig .tc .vmem S256x2048 .f32) (harg1 : arg1.IsWhole)
  (arg2 : Memref sig .tc .vmem S256x2048 .f32) (harg2 : arg2.IsWhole) (arg3 : Memref sig .tc .vmem S1x2048 .f32)
  (harg3 : arg3.IsWhole) (arg4 : Memref sig .tc .vmem S2048x5120 .bf16) (harg4 : arg4.IsWhole)
  (arg5 : Memref sig .tc .vmem S3x1024 .f32) (harg5 : arg5.IsWhole) (arg6 : Memref sig .tc .vmem S31x1024 .f32)
  (harg6 : arg6.IsWhole) (arg7 : Memref sig .tc .vmem S1x1024 .f32) (harg7 : arg7.IsWhole)
  (arg8 : Memref sig .tc .vmem S1x1024 .f32) (harg8 : arg8.IsWhole) (arg9 : Memref sig .tc .vmem S1x1024 .f32)
  (harg9 : arg9.IsWhole) (arg10 : Memref sig .tc .vmem S2048x2048 .bf16) (harg10 : arg10.IsWhole)
  (arg11 : Memref sig .tc .vmem S1x2048 .f32) (harg11 : arg11.IsWhole) (arg12 : Memref sig .tc .vmem S32x8192 .f32)
  (harg12 : arg12.IsWhole) (arg13 : Memref sig .tc .vmem S128x2048 .f32) (harg13 : arg13.IsWhole)
  (arg14 : Memref sig .tc .vmem S256x2048 .f32) (harg14 : arg14.IsWhole) (arg15 : Memref sig .tc .vmem S32x8192 .bf16)
  (harg15 : arg15.IsWhole) (arg16 : Memref sig .tc .vmem S128x2048 .bf16) (harg16 : arg16.IsWhole)
  (arg17 : Memref sig .tc .vmem S256x2048 .bf16) (harg17 : arg17.IsWhole) (arg18 : Memref sig .tc .vmem S256x2048 .bf16)
  (harg18 : arg18.IsWhole) (arg19 : Memref sig .tc .vmem S264x1024 .f32) (harg19 : arg19.IsWhole)
  (arg20 : Memref sig .tc .vmem S288x1024 .f32) (harg20 : arg20.IsWhole) (arg21 : Memref sig .tc .vmem S256x1024 .f32)
  (harg21 : arg21.IsWhole) (arg22 : Memref sig .tc .vmem S256x2048 .f32) (harg22 : arg22.IsWhole)
  (arg23 : Memref sig .tc .vmem S256x2048 .bf16) (harg23 : arg23.IsWhole) (hc0 : cond0_0 i) (x0 : Vec F S256x2048 .f32)
  (x1 : Vec F S256x2048 .f32) (x2 : Vec F S1x2048 .f32) (x3 : Vec F S2048x5120 .bf16) (x4 : Vec F S3x1024 .f32)
  (x5 : Vec F S31x1024 .f32) (x6 : Vec F S1x1024 .f32) (x7 : Vec F S1x1024 .f32) (x8 : Vec F S1x1024 .f32)
  (x9 : Vec F S2048x2048 .bf16) (x10 : Vec F S1x2048 .f32) (x11 : Vec F S32x8192 .f32) (x12 : Vec F S128x2048 .f32)

/-- The normalised rows as the four chunks find them. -/
def uA : ℕ → Vec F S256x2048 .bf16
  | 0 => kernelRun0_A.sl.v2008 c arg1 harg1 arg3 harg3 arg6 harg6 arg7 harg7 arg17 arg18 arg20 x0 x2 x5 x6
  | 1 => kernelRun0_A.sl.v4083 c i arg1 harg1 arg3 harg3 arg4 harg4 arg6 harg6 arg7 harg7 arg17 arg18 arg20 x0 x2 x3 x5 x6
  | 2 => kernelRun0_A.sl.v6158 c i arg1 harg1 arg3 harg3 arg4 harg4 arg6 harg6 arg7 harg7 arg17 arg18 arg20 x0 x2 x3 x5 x6
  | _ => kernelRun0_A.sl.v8233 c i arg1 harg1 arg3 harg3 arg4 harg4 arg6 harg6 arg7 harg7 arg17 arg18 arg20 x0 x2 x3 x5 x6

/-- The rows above the held rows, masked at a sequence's start. -/
def headA : ℕ → Vec F S32x256 .f32
  | 0 => k0_pay147 (kernelRun0_A.sl.v13 i) (kernelRun0_A.sl.v2028 c arg20)
  | 1 => k0_pay147 (kernelRun0_A.sl.v13 i) (kernelRun0_A.sl.v4103 c i arg1 harg1 arg3 harg3 arg4 harg4 arg6 harg6 arg7 harg7 arg17 arg18 arg20 x0 x2 x3 x5 x6)
  | 2 => k0_pay147 (kernelRun0_A.sl.v13 i) (kernelRun0_A.sl.v6178 c i arg1 harg1 arg3 harg3 arg4 harg4 arg6 harg6 arg7 harg7 arg17 arg18 arg20 x0 x2 x3 x5 x6)
  | _ => k0_pay147 (kernelRun0_A.sl.v13 i) (kernelRun0_A.sl.v8253 c i arg1 harg1 arg3 harg3 arg4 harg4 arg6 harg6 arg7 harg7 arg17 arg18 arg20 x0 x2 x3 x5 x6)

theorem wordsA_2 : (kernelRun0_A c i arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20 arg21 harg21
    arg22 harg22 arg23 harg23 hc0 x0 x1 x2 x3 x4 x5 x6 x7 x8 x9 x10 x11 x12).2.2.2.1
    = listA (uA c i arg1 harg1 arg3 harg3 arg4 harg4 arg6 harg6 arg7 harg7 arg17 arg18 arg20 x0 x2 x3 x5 x6) (part arg4 harg4 x3) arg19 (k0_pay5 i
    (kernelRun0_A.sl.v14 c arg19)) [⟨box 0 0 8 1024 (by decide) (by decide), k0_pay2⟩] 4 := by
  sl_kernel_rfl

theorem wordsA_3 : (kernelRun0_A c i arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20 arg21 harg21
    arg22 harg22 arg23 harg23 hc0 x0 x1 x2 x3 x4 x5 x6 x7 x8 x9 x10 x11 x12).2.2.2.2.1
    = listB (uA c i arg1 harg1 arg3 harg3 arg4 harg4 arg6 harg6 arg7 harg7 arg17 arg18 arg20 x0 x2 x3 x5 x6) (part arg4 harg4 x3) (headA c i arg1
    harg1 arg3 harg3 arg4 harg4 arg6 harg6 arg7 harg7 arg17 arg18 arg20 x0 x2 x3 x5 x6) [⟨box 0 0 288 1024 (by decide) (by decide), k0_pay3⟩] 4 := by
  sl_kernel_rfl

theorem wordsA_6 : (kernelRun0_A c i arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20 arg21 harg21
    arg22 harg22 arg23 harg23 hc0 x0 x1 x2 x3 x4 x5 x6 x7 x8 x9 x10 x11 x12).2.2.2.2.2.1
    = rightList (fun k => k0_pay644 (arg21.view.readCov (kernelRun0_A.sl.HS4_32 c i arg1 harg1 arg3 harg3 arg4 harg4 arg6 harg6 arg7 harg7 arg17 arg18
    arg20 x0 x2 x3 x5 x6) (box (32 * (7 - k.val)) 0 32 1024 (by omega) (by decide)).toLoadRect)
        (load arg8 harg8 x7 0 0 1 1024 (by decide) (by decide)) (load arg9 harg9 x8 0 0 1 1024 (by decide) (by decide)))
    ++ (gatedList (uA c i arg1 harg1 arg3 harg3 arg4 harg4 arg6 harg6 arg7 harg7 arg17 arg18 arg20 x0 x2 x3 x5 x6) (part arg4 harg4 x3) arg19
      (fun n => bodyA (uA c i arg1 harg1 arg3 harg3 arg4 harg4 arg6 harg6 arg7 harg7 arg17 arg18 arg20 x0 x2 x3 x5 x6) (part arg4 harg4 x3) n
        :: listA (uA c i arg1 harg1 arg3 harg3 arg4 harg4 arg6 harg6 arg7 harg7 arg17 arg18 arg20 x0 x2 x3 x5 x6) (part arg4 harg4 x3) arg19 (k0_pay5
    i (kernelRun0_A.sl.v14 c arg19)) [⟨box 0 0 8 1024 (by decide) (by decide), k0_pay2⟩] n)
      arg5 harg5 x4 ++ [⟨box 0 0 256 2048 (by decide) (by decide), k0_pay4⟩]) := by
  sl_kernel_rfl

end words

end Cert.Mix
-- ==== Proof.MixWordsB.lean ====
/-
  The pieces a later step of the mixer writes, as the lists of MixStage.
-/
module

public import proofs.«01_k».proof.Proof.MixConvB
public import proofs.«01_k».proof.Proof.Gen.KernelIdeal.Frame

@[expose] public section

set_option maxRecDepth 65536

noncomputable section

namespace Cert.Mix

open Idealize.ShloMosaic Idealize.ShloMosaic.TcCoe Idealize.ShloMosaic.Tactic
open Cert.KernelIdeal Cert.KernelIdeal.Gen

section words

variable {F : FTy → Type} [FloatOps F]
variable (c : Dev nD) (i : grid0.Coords) (arg1 : Memref sig .tc .vmem S256x2048 .f32) (harg1 : arg1.IsWhole)
  (arg2 : Memref sig .tc .vmem S256x2048 .f32) (harg2 : arg2.IsWhole) (arg3 : Memref sig .tc .vmem S1x2048 .f32)
  (harg3 : arg3.IsWhole) (arg4 : Memref sig .tc .vmem S2048x5120 .bf16) (harg4 : arg4.IsWhole)
  (arg5 : Memref sig .tc .vmem S3x1024 .f32) (harg5 : arg5.IsWhole) (arg6 : Memref sig .tc .vmem S31x1024 .f32)
  (harg6 : arg6.IsWhole) (arg7 : Memref sig .tc .vmem S1x1024 .f32) (harg7 : arg7.IsWhole)
  (arg8 : Memref sig .tc .vmem S1x1024 .f32) (harg8 : arg8.IsWhole) (arg9 : Memref sig .tc .vmem S1x1024 .f32)
  (harg9 : arg9.IsWhole) (arg10 : Memref sig .tc .vmem S2048x2048 .bf16) (harg10 : arg10.IsWhole)
  (arg11 : Memref sig .tc .vmem S1x2048 .f32) (harg11 : arg11.IsWhole) (arg12 : Memref sig .tc .vmem S32x8192 .f32)
  (harg12 : arg12.IsWhole) (arg13 : Memref sig .tc .vmem S128x2048 .f32) (harg13 : arg13.IsWhole)
  (arg14 : Memref sig .tc .vmem S256x2048 .f32) (harg14 : arg14.IsWhole) (arg15 : Memref sig .tc .vmem S32x8192 .bf16)
  (harg15 : arg15.IsWhole) (arg16 : Memref sig .tc .vmem S128x2048 .bf16) (harg16 : arg16.IsWhole)
  (arg17 : Memref sig .tc .vmem S256x2048 .bf16) (harg17 : arg17.IsWhole) (arg18 : Memref sig .tc .vmem S256x2048 .bf16)
  (harg18 : arg18.IsWhole) (arg19 : Memref sig .tc .vmem S264x1024 .f32) (harg19 : arg19.IsWhole)
  (arg20 : Memref sig .tc .vmem S288x1024 .f32) (harg20 : arg20.IsWhole) (arg21 : Memref sig .tc .vmem S256x1024 .f32)
  (harg21 : arg21.IsWhole) (arg22 : Memref sig .tc .vmem S256x2048 .f32) (harg22 : arg22.IsWhole)
  (arg23 : Memref sig .tc .vmem S256x2048 .bf16) (harg23 : arg23.IsWhole) (hc0 : ¬cond0_0 i) (x0 : Vec F S256x2048 .f32)
  (x1 : Vec F S256x2048 .f32) (x2 : Vec F S1x2048 .f32) (x3 : Vec F S2048x5120 .bf16) (x4 : Vec F S3x1024 .f32)
  (x5 : Vec F S31x1024 .f32) (x6 : Vec F S1x1024 .f32) (x7 : Vec F S1x1024 .f32) (x8 : Vec F S1x1024 .f32)
  (x9 : Vec F S2048x2048 .bf16) (x10 : Vec F S1x2048 .f32) (x11 : Vec F S32x8192 .f32) (x12 : Vec F S128x2048 .f32)
  (xs2 : Vec F S264x1024 .f32) (xs3 : Vec F S288x1024 .f32) (xs6 : Vec F S256x2048 .bf16)

/-- The normalised rows as the four chunks find them. -/
def uB : ℕ → Vec F S256x2048 .bf16
  | 0 => kernelRun0_B.sl.v2008 c arg1 harg1 arg3 harg3 arg6 harg6 arg7 harg7 arg17 arg18 arg20 harg20 x0 x2 x5 x6 xs3
  | 1 => kernelRun0_B.sl.v4083 c arg1 harg1 arg3 harg3 arg6 harg6 arg7 harg7 arg17 arg18 arg20 harg20 x0 x2 x5 x6 xs3
  | 2 => kernelRun0_B.sl.v6158 c arg1 harg1 arg3 harg3 arg6 harg6 arg7 harg7 arg17 arg18 arg20 harg20 x0 x2 x5 x6 xs3
  | _ => kernelRun0_B.sl.v8233 c arg1 harg1 arg3 harg3 arg6 harg6 arg7 harg7 arg17 arg18 arg20 harg20 x0 x2 x5 x6 xs3

/-- The right half's blocks of 32 rows: the convolution's rows normalised and put through its gate. -/
def rightB (k : Fin 8) : Vec F S32x1024 .bf16 :=
  k0_pay644 (arg21.view.readCov (gcList arg6 harg6 arg7 harg7 arg20 harg20 x5 x6 xs3) (box (32 * (7 - k.val)) 0 32 1024 (by omega) (by decide)).toLoadRect)
    (load arg8 harg8 x7 0 0 1 1024 (by decide) (by decide)) (load arg9 harg9 x8 0 0 1 1024 (by decide) (by decide))

/-- The rows above the held rows, masked at a sequence's start. -/
def headB (n : ℕ) : Vec F S32x256 .f32 :=
  k0_pay147 (kernelRun0_B.sl.v13 i) (load arg20 harg20 xs3 256 (256 * (n % 4)) 32 256 (by decide) (by omega))

theorem wordsB_2 : (kernelRun0_B c i arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20 arg21 harg21
    arg22 harg22 arg23 harg23 hc0 x0 x1 x2 x3 x4 x5 x6 x7 x8 x9 x10 x11 x12 xs2 xs3 xs6).2.2.2.1
    = listA (uB c arg1 harg1 arg3 harg3 arg6 harg6 arg7 harg7 arg17 arg18 arg20 harg20 x0 x2 x5 x6 xs3) (part arg4 harg4 x3) arg19 (k0_pay5 i (load
    arg19 harg19 xs2 0 0 8 1024 (by decide) (by decide))) [] 4 := by
  sl_kernel_rfl

theorem wordsB_3 : (kernelRun0_B c i arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20 arg21 harg21
    arg22 harg22 arg23 harg23 hc0 x0 x1 x2 x3 x4 x5 x6 x7 x8 x9 x10 x11 x12 xs2 xs3 xs6).2.2.2.2.1
    = listB (uB c arg1 harg1 arg3 harg3 arg6 harg6 arg7 harg7 arg17 arg18 arg20 harg20 x0 x2 x5 x6 xs3) (part arg4 harg4 x3) (headB i arg20 harg20
    xs3) [] 4 := by
  sl_kernel_rfl

/-- The pieces on the buffer of both convolutions' results. -/
def mixedB : List (View.Piece (Elt F) S256x2048 .bf16) :=
  rightList (rightB arg6 harg6 arg7 harg7 arg8 harg8 arg9 harg9 arg20 harg20 arg21 x5 x6 x7 x8 xs3)
    ++ (gatedList (uB c arg1 harg1 arg3 harg3 arg6 harg6 arg7 harg7 arg17 arg18 arg20 harg20 x0 x2 x5 x6 xs3) (part arg4 harg4 x3) arg19
      (fun n => bodyA (uB c arg1 harg1 arg3 harg3 arg6 harg6 arg7 harg7 arg17 arg18 arg20 harg20 x0 x2 x5 x6 xs3) (part arg4 harg4 x3) n
        :: listA (uB c arg1 harg1 arg3 harg3 arg6 harg6 arg7 harg7 arg17 arg18 arg20 harg20 x0 x2 x5 x6 xs3) (part arg4 harg4 x3) arg19 (k0_pay5 i
    (load arg19 harg19 xs2 0 0 8 1024 (by decide) (by decide))) [] n)
      arg5 harg5 x4 ++ [])

theorem wordsB_6 : (kernelRun0_B c i arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20 arg21 harg21
    arg22 harg22 arg23 harg23 hc0 x0 x1 x2 x3 x4 x5 x6 x7 x8 x9 x10 x11 x12 xs2 xs3 xs6).2.2.2.2.2.1
    = mixedB c i arg1 harg1 arg3 harg3 arg4 harg4 arg5 harg5 arg6 harg6 arg7 harg7 arg8 harg8 arg9 harg9 arg17 arg18 arg19 harg19 arg20 harg20 arg21
    x0 x2 x3 x4 x5 x6 x7 x8 xs2 xs3 := by
  sl_kernel_rfl

theorem wordsB_13 : (kernelRun0_B c i arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20 arg21 harg21
    arg22 harg22 arg23 harg23 hc0 x0 x1 x2 x3 x4 x5 x6 x7 x8 x9 x10 x11 x12 xs2 xs3 xs6).1
    = [⟨box 0 0 256 2048 (by decide) (by decide), k0_pay1
      (arg22.view.readCov [⟨box 0 0 256 2048 (by decide) (by decide), k0_pay39 (load arg23 harg23 xs6 0 0 256 1024 (by decide) (by decide))
        (kernelRun0_B.sl.r_23 c arg6 harg6 arg7 harg7 arg20 harg20 x5 x6 xs3) (load arg10 harg10 x9 0 0 1024 2048 (by decide) (by decide))⟩]
        (box 0 0 256 2048 (by decide) (by decide)).toLoadRect)
      (arg23.view.readCov (mixedB c i arg1 harg1 arg3 harg3 arg4 harg4 arg5 harg5 arg6 harg6 arg7 harg7 arg8 harg8 arg9 harg9 arg17 arg18 arg19 harg19
    arg20 harg20 arg21 x0 x2 x3 x4 x5 x6 x7 x8 xs2 xs3) (box 0 1024 256 1024 (by decide) (by decide)).toLoadRect)
      (load arg10 harg10 x9 1024 0 1024 2048 (by decide) (by decide)) (load arg2 harg2 x1 0 0 256 2048 (by decide) (by decide))
      (load arg11 harg11 x10 0 0 1 2048 (by decide) (by decide))⟩] := by
  sl_kernel_rfl

end words

end Cert.Mix
-- ==== Proof.MixStep.lean ====
/-
  What a step of the mixer leaves in its buffers, over the reals, in terms of the step's input blocks and of what the step
  before left.
-/
module

public import proofs.«01_k».proof.Proof.MixWordsA
public import proofs.«01_k».proof.Proof.MixWordsB

@[expose] public section

set_option maxRecDepth 65536

noncomputable section

namespace Cert.Mix

open Idealize.ShloMosaic Idealize.ShloMosaic.TcCoe Idealize.ShloMosaic.Tactic
open Cert.KernelIdeal Cert.KernelIdeal.Gen

/-! ## A block's projections -/

section block

variable (x0 : Vec Ideal S256x2048 .f32) (x2 : Vec Ideal S1x2048 .f32) (x3 : Vec Ideal S2048x5120 .bf16)

/-- A fifth of the input projection of a block of rows. -/
def projAt (q : Fin 5) (R : Fin 256) (j : Fin 1024) : EReal :=
  ∑ k : Fin 2048, normRows x0 x2 (ix2 R k) * x3 (ix2 k ⟨1024 * q.val + j.val, by omega⟩)

/-- The rows the convolution of three weights runs over, -/
def cvAt (R : Fin 256) (j : Fin 1024) : EReal := projAt x0 x2 x3 1 R j * projAt x0 x2 x3 2 R j

/-- and those the convolution of 31 weights runs over. -/
def glAt (R : Fin 256) (j : Fin 1024) : EReal := projAt x0 x2 x3 3 R j * Ideal.logistic (projAt x0 x2 x3 4 R j)

variable (u : ℕ → Vec Ideal S256x2048 .bf16) (hu : ∀ n, u n = normRows x0 x2)
  (arg4 : Memref sig .tc .vmem S2048x5120 .bf16) (harg4 : arg4.IsWhole)

include hu

theorem proj_part (q : Fin 5) (R : Fin 256) (j : Fin 1024) :
    proj (u (j.val / 256)) (part arg4 harg4 x3 q (j.val / 256)) (ix2 R ⟨j.val % 256, Nat.mod_lt _ (by decide)⟩) = projAt x0 x2 x3 q R j := by
  rw [hu, proj_apply]
  unfold projAt
  refine Finset.sum_congr rfl fun k _ => congrArg _ ?_
  refine (load_apply arg4 harg4 x3 0 _ 2048 256 _ _ k _).trans ?_
  congr 2
  · exact Fin.ext (Nat.zero_add _)
  · exact Fin.ext (by dsimp only; omega)

theorem prod_part (R : Fin 256) (j : Fin 1024) : prodAt u (part arg4 harg4 x3) R j = cvAt x0 x2 x3 R j := by
  unfold prodAt cvAt
  rw [prod_apply, proj_part x0 x2 x3 u hu, proj_part x0 x2 x3 u hu]

theorem glu_part (R : Fin 256) (j : Fin 1024) :
    glu (u (j.val / 256)) (part arg4 harg4 x3 3 (j.val / 256)) (part arg4 harg4 x3 4 (j.val / 256)) (ix2 R ⟨j.val % 256, Nat.mod_lt _ (by decide)⟩)
      = glAt x0 x2 x3 R j := by
  unfold glAt
  rw [glu_apply, proj_part x0 x2 x3 u hu, proj_part x0 x2 x3 u hu]

/-- The gated convolution of three weights of a block whose eight rows above are `p`. -/
theorem gated_part (p : Vec Ideal S8x1024 .f32) (a : Vec Ideal S3x1024 .f32) (R : Fin 256) (j : Fin 1024) :
    gatedAt u (part arg4 harg4 x3) p a R j = projAt x0 x2 x3 0 R j * ∑ k : Fin 3, a (ix2 k j)
      * (if h : R.val + k.val + 6 < 8 then p (ix2 ⟨R.val + k.val + 6, h⟩ j) else cvAt x0 x2 x3 ⟨R.val + k.val + 6 - 8, by omega⟩ j) := by
  unfold gatedAt rowA
  rw [proj_part x0 x2 x3 u hu]
  simp only [prod_part x0 x2 x3 u hu]

end block

/-! ## The start of a sequence -/

/-- The word that masks rows of the step before at a sequence's start. -/
theorem start_word (i : grid0.Coords) : kernelRun0_B.sl.v13 i = if (i 0).val % 8 = 0 then 1#1 else 0#1 := by
  have h : ∀ n : Fin 65, kernelRun0_B.sl.v13 (fun a : Fin 1 => match a with | ⟨0, _⟩ => n) = if n.val % 8 = 0 then 1#1 else 0#1 := by decide +kernel
  have e : i = fun a : Fin 1 => match a with | ⟨0, _⟩ => i 0 := by
    funext a
    match a with
    | ⟨0, _⟩ => rfl
  rw [e]
  exact h (i 0)

theorem pay5_apply (i : grid0.Coords) (v : Vec Ideal S8x1024 .f32) (y) : k0_pay5 i v y = if (i 0).val % 8 = 0 then 0 else v y := by
  have e : k0_pay5 i v = shapeCast S8x1024 (Scalar.select (kernelRun0_B.sl.v13 i) (broadcast S8x1024 (Scalar.ofBits .f32 0x00000000#32)) v) shapeCasts_S8x1024_S8x1024 := rfl
  rw [e, shapeCast_id, start_word]
  split
  · exact Ideal.ofBits_zero_f32
  · rfl

theorem pay147_apply (i : grid0.Coords) (v : Vec Ideal S32x256 .f32) (y) :
    k0_pay147 (kernelRun0_B.sl.v13 i) v y = if (i 0).val % 8 = 0 then 0 else v y := by
  have e : k0_pay147 (kernelRun0_B.sl.v13 i) v = shapeCast S32x256 (Scalar.select (kernelRun0_B.sl.v13 i) (broadcast S32x256 (Scalar.ofBits .f32 0x00000000#32)) v) shapeCasts_S32x256_S32x256 := rfl
  rw [e, shapeCast_id, start_word]
  split
  · exact Ideal.ofBits_zero_f32
  · rfl

end Cert.Mix
-- ==== Proof.MixRows.lean ====
/-
  The normalised rows as every chunk of a step finds them.
-/
module

public import proofs.«01_k».proof.Proof.MixStep

@[expose] public section

set_option maxRecDepth 65536

noncomputable section

namespace Cert.Mix

open Idealize.ShloMosaic Idealize.ShloMosaic.TcCoe Idealize.ShloMosaic.Tactic
open Cert.KernelIdeal Cert.KernelIdeal.Gen

/-- Reading a whole buffer after a whole write gives what was written. -/
theorem whole_read {n m : ℕ} {e : EltTy} {sp : Space} {F : FTy → Type} [FloatOps F] (M : Memref sig .tc sp ⟨2, ![n, m]⟩ e)
    (L : List (View.Piece (Elt F) ⟨2, ![n, m]⟩ e)) (v : Vec F ⟨2, ![n, m]⟩ e) :
    M.view.readCov (⟨box 0 0 n m (by omega) (by omega), v⟩ :: L) (box (n := n) (m := m) 0 0 n m (by omega) (by omega)).toLoadRect = v :=
  View.readCov_cons_toLoadRect ..

section words

variable {F : FTy → Type} [FloatOps F]
variable (c : Dev nD) (i : grid0.Coords) (arg1 : Memref sig .tc .vmem S256x2048 .f32) (harg1 : arg1.IsWhole)
  (arg3 : Memref sig .tc .vmem S1x2048 .f32)
  (harg3 : arg3.IsWhole) (arg4 : Memref sig .tc .vmem S2048x5120 .bf16) (harg4 : arg4.IsWhole)
  (arg6 : Memref sig .tc .vmem S31x1024 .f32)
  (harg6 : arg6.IsWhole) (arg7 : Memref sig .tc .vmem S1x1024 .f32) (harg7 : arg7.IsWhole)
  (arg17 : Memref sig .tc .vmem S256x2048 .bf16) (arg18 : Memref sig .tc .vmem S256x2048 .bf16)
  (arg20 : Memref sig .tc .vmem S288x1024 .f32) (harg20 : arg20.IsWhole)
  (x0 : Vec F S256x2048 .f32) (x2 : Vec F S1x2048 .f32) (x3 : Vec F S2048x5120 .bf16)
  (x5 : Vec F S31x1024 .f32) (x6 : Vec F S1x1024 .f32) (xs3 : Vec F S288x1024 .f32)

/-- The normalised rows as they are read back first. -/
def firstRows : Vec F S256x2048 .bf16 :=
  arg18.view.readCov (normList arg1 harg1 x0 arg3 harg3 x2) (box 0 0 256 2048 (by decide) (by decide)).toLoadRect

theorem firstB : kernelRun0_B.sl.v1995 c arg1 harg1 arg3 harg3 arg18 x0 x2 = firstRows arg1 harg1 arg3 harg3 arg18 x0 x2 := by
  sl_kernel_rfl

theorem firstA : kernelRun0_A.sl.v1995 c arg1 harg1 arg3 harg3 arg18 x0 x2 = firstRows arg1 harg1 arg3 harg3 arg18 x0 x2 := by
  sl_kernel_rfl

theorem keptB0 : ∃ a b, uB c arg1 harg1 arg3 harg3 arg6 harg6 arg7 harg7 arg17 arg18 arg20 harg20 x0 x2 x5 x6 xs3 0
    = k0_pay144 a b (kernelRun0_B.sl.v1995 c arg1 harg1 arg3 harg3 arg18 x0 x2) :=
  ⟨_, _, whole_read arg17 _ _⟩

theorem keptB1 : ∃ a b, uB c arg1 harg1 arg3 harg3 arg6 harg6 arg7 harg7 arg17 arg18 arg20 harg20 x0 x2 x5 x6 xs3 1
    = k0_pay310 a b (uB c arg1 harg1 arg3 harg3 arg6 harg6 arg7 harg7 arg17 arg18 arg20 harg20 x0 x2 x5 x6 xs3 0) :=
  ⟨_, _, whole_read arg18 _ _⟩

theorem keptB2 : ∃ a b x y, uB c arg1 harg1 arg3 harg3 arg6 harg6 arg7 harg7 arg17 arg18 arg20 harg20 x0 x2 x5 x6 xs3 2
    = k0_pay453 a b x y (uB c arg1 harg1 arg3 harg3 arg6 harg6 arg7 harg7 arg17 arg18 arg20 harg20 x0 x2 x5 x6 xs3 1) :=
  ⟨_, _, _, _, whole_read arg17 _ _⟩

theorem keptB3 : ∃ a b x y, uB c arg1 harg1 arg3 harg3 arg6 harg6 arg7 harg7 arg17 arg18 arg20 harg20 x0 x2 x5 x6 xs3 3
    = k0_pay621 a b x y (uB c arg1 harg1 arg3 harg3 arg6 harg6 arg7 harg7 arg17 arg18 arg20 harg20 x0 x2 x5 x6 xs3 2) :=
  ⟨_, _, _, _, whole_read arg18 _ _⟩

theorem keptA0 : ∃ a b, uA c i arg1 harg1 arg3 harg3 arg4 harg4 arg6 harg6 arg7 harg7 arg17 arg18 arg20 x0 x2 x3 x5 x6 0
    = k0_pay144 a b (kernelRun0_A.sl.v1995 c arg1 harg1 arg3 harg3 arg18 x0 x2) :=
  ⟨_, _, whole_read arg17 _ _⟩

theorem keptA1 : ∃ a b, uA c i arg1 harg1 arg3 harg3 arg4 harg4 arg6 harg6 arg7 harg7 arg17 arg18 arg20 x0 x2 x3 x5 x6 1
    = k0_pay310 a b (uA c i arg1 harg1 arg3 harg3 arg4 harg4 arg6 harg6 arg7 harg7 arg17 arg18 arg20 x0 x2 x3 x5 x6 0) :=
  ⟨_, _, whole_read arg18 _ _⟩

theorem keptA2 : ∃ a b x y, uA c i arg1 harg1 arg3 harg3 arg4 harg4 arg6 harg6 arg7 harg7 arg17 arg18 arg20 x0 x2 x3 x5 x6 2
    = k0_pay453 a b x y (uA c i arg1 harg1 arg3 harg3 arg4 harg4 arg6 harg6 arg7 harg7 arg17 arg18 arg20 x0 x2 x3 x5 x6 1) :=
  ⟨_, _, _, _, whole_read arg17 _ _⟩

theorem keptA3 : ∃ a b x y, uA c i arg1 harg1 arg3 harg3 arg4 harg4 arg6 harg6 arg7 harg7 arg17 arg18 arg20 x0 x2 x3 x5 x6 3
    = k0_pay621 a b x y (uA c i arg1 harg1 arg3 harg3 arg4 harg4 arg6 harg6 arg7 harg7 arg17 arg18 arg20 x0 x2 x3 x5 x6 2) :=
  ⟨_, _, _, _, whole_read arg18 _ _⟩

end words

section rows

variable (c : Dev nD) (i : grid0.Coords) (arg1 : Memref sig .tc .vmem S256x2048 .f32) (harg1 : arg1.IsWhole)
  (arg3 : Memref sig .tc .vmem S1x2048 .f32)
  (harg3 : arg3.IsWhole) (arg4 : Memref sig .tc .vmem S2048x5120 .bf16) (harg4 : arg4.IsWhole)
  (arg6 : Memref sig .tc .vmem S31x1024 .f32)
  (harg6 : arg6.IsWhole) (arg7 : Memref sig .tc .vmem S1x1024 .f32) (harg7 : arg7.IsWhole)
  (arg17 : Memref sig .tc .vmem S256x2048 .bf16) (arg18 : Memref sig .tc .vmem S256x2048 .bf16)
  (arg20 : Memref sig .tc .vmem S288x1024 .f32) (harg20 : arg20.IsWhole)
  (x0 : Vec Ideal S256x2048 .f32) (x2 : Vec Ideal S1x2048 .f32) (x3 : Vec Ideal S2048x5120 .bf16)
  (x5 : Vec Ideal S31x1024 .f32) (x6 : Vec Ideal S1x1024 .f32) (xs3 : Vec Ideal S288x1024 .f32)

theorem first_eq : firstRows arg1 harg1 arg3 harg3 arg18 x0 x2 = normRows x0 x2 := by
  funext y
  obtain ⟨r, j, rfl⟩ := eq_ix2 (a := 256) (b := 2048) y
  refine (cov_apply arg18 _ 0 0 256 2048 _ _ r j).trans ?_
  rw [normList_canon]
  refine congrArg (normRows x0 x2) ?_
  congr 1
  · exact Fin.ext (Nat.zero_add _)
  · exact Fin.ext (Nat.zero_add _)

theorem uB_eq (n : ℕ) : uB c arg1 harg1 arg3 harg3 arg6 harg6 arg7 harg7 arg17 arg18 arg20 harg20 x0 x2 x5 x6 xs3 n = normRows x0 x2 := by
  have h0 : uB c arg1 harg1 arg3 harg3 arg6 harg6 arg7 harg7 arg17 arg18 arg20 harg20 x0 x2 x5 x6 xs3 0 = normRows x0 x2 := by
    obtain ⟨a, b, h⟩ := keptB0 (F := Ideal) c arg1 harg1 arg3 harg3 arg6 harg6 arg7 harg7 arg17 arg18 arg20 harg20 x0 x2 x5 x6 xs3
    rw [h, pay144_eq, firstB, first_eq]
  have h1 : uB c arg1 harg1 arg3 harg3 arg6 harg6 arg7 harg7 arg17 arg18 arg20 harg20 x0 x2 x5 x6 xs3 1 = normRows x0 x2 := by
    obtain ⟨a, b, h⟩ := keptB1 (F := Ideal) c arg1 harg1 arg3 harg3 arg6 harg6 arg7 harg7 arg17 arg18 arg20 harg20 x0 x2 x5 x6 xs3
    rw [h, pay310_eq, h0]
  have h2 : uB c arg1 harg1 arg3 harg3 arg6 harg6 arg7 harg7 arg17 arg18 arg20 harg20 x0 x2 x5 x6 xs3 2 = normRows x0 x2 := by
    obtain ⟨a, b, x, y, h⟩ := keptB2 (F := Ideal) c arg1 harg1 arg3 harg3 arg6 harg6 arg7 harg7 arg17 arg18 arg20 harg20 x0 x2 x5 x6 xs3
    rw [h, pay453_eq, h1]
  match n with
  | 0 => exact h0
  | 1 => exact h1
  | 2 => exact h2
  | n + 3 =>
    obtain ⟨a, b, x, y, h⟩ := keptB3 (F := Ideal) c arg1 harg1 arg3 harg3 arg6 harg6 arg7 harg7 arg17 arg18 arg20 harg20 x0 x2 x5 x6 xs3
    refine Eq.trans ?_ (h.trans ((pay621_eq a b x y _).trans h2))
    rfl

theorem uA_eq (n : ℕ) : uA c i arg1 harg1 arg3 harg3 arg4 harg4 arg6 harg6 arg7 harg7 arg17 arg18 arg20 x0 x2 x3 x5 x6 n = normRows x0 x2 := by
  have h0 : uA c i arg1 harg1 arg3 harg3 arg4 harg4 arg6 harg6 arg7 harg7 arg17 arg18 arg20 x0 x2 x3 x5 x6 0 = normRows x0 x2 := by
    obtain ⟨a, b, h⟩ := keptA0 (F := Ideal) c i arg1 harg1 arg3 harg3 arg4 harg4 arg6 harg6 arg7 harg7 arg17 arg18 arg20 x0 x2 x3 x5 x6
    rw [h, pay144_eq, firstA, first_eq]
  have h1 : uA c i arg1 harg1 arg3 harg3 arg4 harg4 arg6 harg6 arg7 harg7 arg17 arg18 arg20 x0 x2 x3 x5 x6 1 = normRows x0 x2 := by
    obtain ⟨a, b, h⟩ := keptA1 (F := Ideal) c i arg1 harg1 arg3 harg3 arg4 harg4 arg6 harg6 arg7 harg7 arg17 arg18 arg20 x0 x2 x3 x5 x6
    rw [h, pay310_eq, h0]
  have h2 : uA c i arg1 harg1 arg3 harg3 arg4 harg4 arg6 harg6 arg7 harg7 arg17 arg18 arg20 x0 x2 x3 x5 x6 2 = normRows x0 x2 := by
    obtain ⟨a, b, x, y, h⟩ := keptA2 (F := Ideal) c i arg1 harg1 arg3 harg3 arg4 harg4 arg6 harg6 arg7 harg7 arg17 arg18 arg20 x0 x2 x3 x5 x6
    rw [h, pay453_eq, h1]
  match n with
  | 0 => exact h0
  | 1 => exact h1
  | 2 => exact h2
  | n + 3 =>
    obtain ⟨a, b, x, y, h⟩ := keptA3 (F := Ideal) c i arg1 harg1 arg3 harg3 arg4 harg4 arg6 harg6 arg7 harg7 arg17 arg18 arg20 x0 x2 x3 x5 x6
    refine Eq.trans ?_ (h.trans ((pay621_eq a b x y _).trans h2))
    rfl

end rows

end Cert.Mix
-- ==== Proof.MixSpec.lean ====
/-
  The mixer as a function of its arguments, over the reals, stage by stage.
-/
module

public import proofs.«01_k».proof.Proof.MixStage

@[expose] public section

noncomputable section

namespace Cert.Mix

open Idealize.ShloMosaic
open Cert.KernelIdeal

/-- The arguments of the mixer. -/
structure Args where
  x : S8x2048x2048.Idx → EReal
  preGain : S1x2048.Idx → EReal
  wIn : S1x2048x5120.Idx → EReal
  convA : S1x3x1024.Idx → EReal
  convB : S1x31x1024.Idx → EReal
  biasB : S1x1024.Idx → EReal
  lnGain : S1x1024.Idx → EReal
  lnBias : S1x1024.Idx → EReal
  wOut : S1x2048x2048.Idx → EReal
  postGain : S1x2048.Idx → EReal

namespace Args

variable (A : Args) (b : Fin 8) (s : Fin 2048)

/-- The input's rows, normalised, times the first weights. -/
def proj (j : Fin 5120) : EReal :=
  ∑ k : Fin 2048, A.x (ix3 b s k) * rowScale (∑ l : Fin 2048, A.x (ix3 b s l) * A.x (ix3 b s l)) * A.preGain (ix2 0 k) * A.wIn (ix3 0 k j)

/-- What the convolution of three weights runs over, after two rows of zeros. -/
def cv (S : ℕ) (j : Fin 1024) : EReal :=
  if h : 2 ≤ S ∧ S < 2050 then A.proj b ⟨S - 2, by omega⟩ ⟨1024 + j.val, by omega⟩ * A.proj b ⟨S - 2, by omega⟩ ⟨2048 + j.val, by omega⟩ else 0

/-- What the convolution of 31 weights runs over, after 30 rows of zeros. -/
def gl (S : ℕ) (j : Fin 1024) : EReal :=
  if h : 30 ≤ S ∧ S < 2078 then A.proj b ⟨S - 30, by omega⟩ ⟨3072 + j.val, by omega⟩
    * Ideal.logistic (A.proj b ⟨S - 30, by omega⟩ ⟨4096 + j.val, by omega⟩) else 0

/-- The gated short convolution. -/
def yA (j : Fin 1024) : EReal := A.proj b s ⟨j.val, by omega⟩ * ∑ k : Fin 3, A.convA (ix3 0 k j) * A.cv b (s.val + k.val) j

/-- The long convolution. -/
def gB (j : Fin 1024) : EReal := A.biasB (ix2 0 j) + ∑ k : Fin 31, A.convB (ix3 0 k j) * A.gl b (s.val + k.val) j

/-- Its rows normalised. -/
def nB (j : Fin 1024) : EReal := lnorm (A.gB b s) (fun k => A.lnGain (ix2 0 k)) (fun k => A.lnBias (ix2 0 k)) j

/-- The output projection of both. -/
def o (j : Fin 2048) : EReal :=
  ∑ k : Fin 1024, A.yA b s k * A.wOut (ix3 0 ⟨k.val, by omega⟩ j)
    + ∑ k : Fin 1024, A.nB b s k * Ideal.logistic (A.nB b s k) * A.wOut (ix3 0 ⟨1024 + k.val, by omega⟩ j)

/-- The rows put out. -/
def out (j : Fin 2048) : EReal :=
  A.x (ix3 b s j) + A.o b s j * rowScale (∑ k : Fin 2048, A.o b s k * A.o b s k) * A.postGain (ix2 0 j)

end Args

end Cert.Mix
-- ==== Proof.MixFacts.lean ====
/-
  What the mixer's buffers hold after the step of a tile, in terms of the mixer's arguments.
-/
module

public import proofs.«01_k».proof.Proof.MixRows
public import proofs.«01_k».proof.Proof.MixSpec

@[expose] public section

set_option maxRecDepth 65536

noncomputable section

namespace Cert.Mix

open Idealize.ShloMosaic Idealize.ShloMosaic.TcCoe Idealize.ShloMosaic.Tactic
open Cert.KernelIdeal Cert.KernelIdeal.Gen

/-- The sequence of tile `t`, -/
def seqOf (t : Fin 64) : Fin 8 := ⟨t.val / 8, by omega⟩

/-- and a row of it. -/
def rowOf (t : Fin 64) (R : Fin 256) : Fin 2048 := ⟨256 * (t.val % 8) + R.val, by omega⟩

variable (A : Args) (t : Fin 64)

/-- What the buffers hold after a tile's step. -/
structure After (s2 : Vec Ideal S264x1024 .f32) (s3 : Vec Ideal S288x1024 .f32) (s6 : Vec Ideal S256x2048 .bf16) : Prop where
  rowsA : ∀ (r : Fin 264) (j : Fin 1024), r.val < 8 → s2 (ix2 r j) = A.cv (seqOf t) (256 * (t.val % 8) + 250 + r.val) j
  rowsB : ∀ (r : Fin 288) (j : Fin 1024), s3 (ix2 r j) = A.gl (seqOf t) (256 * (t.val % 8) + r.val - 2) j
  left : ∀ (R : Fin 256) (j : Fin 1024), s6 (ix2 R ⟨j.val, by omega⟩) = A.yA (seqOf t) (rowOf t R) j

section block

variable (x0 : Vec Ideal S256x2048 .f32) (x2 : Vec Ideal S1x2048 .f32) (x3 : Vec Ideal S2048x5120 .bf16)
  (hx0 : ∀ R k, x0 (ix2 R k) = A.x (ix3 (seqOf t) (rowOf t R) k)) (hx2 : ∀ k, x2 (ix2 0 k) = A.preGain (ix2 0 k))
  (hx3 : ∀ k j, x3 (ix2 k j) = A.wIn (ix3 0 k j))

include hx0 hx2 hx3

theorem projAt_eq (q : Fin 5) (R : Fin 256) (j : Fin 1024) :
    projAt x0 x2 x3 q R j = A.proj (seqOf t) (rowOf t R) ⟨1024 * q.val + j.val, by omega⟩ := by
  unfold projAt Args.proj
  refine Finset.sum_congr rfl fun k _ => ?_
  rw [hx3]
  refine congrArg (· * _) ?_
  show x0 (ix2 R k) * rowScale (∑ l : Fin 2048, x0 (ix2 R l) * x0 (ix2 R l)) * x2 (ix2 0 k) = _
  simp only [hx0, hx2]

theorem cvAt_eq (R : Fin 256) (j : Fin 1024) (S : ℕ) (hS : S = 256 * (t.val % 8) + R.val + 2) : cvAt x0 x2 x3 R j = A.cv (seqOf t) S j := by
  have hR := R.isLt
  unfold cvAt Args.cv
  rw [dif_pos (by omega), projAt_eq A t x0 x2 x3 hx0 hx2 hx3, projAt_eq A t x0 x2 x3 hx0 hx2 hx3]
  have e : rowOf t R = ⟨S - 2, by omega⟩ := Fin.ext (by show 256 * (t.val % 8) + R.val = S - 2; omega)
  rw [e]
  rfl

theorem glAt_eq (R : Fin 256) (j : Fin 1024) (S : ℕ) (hS : S = 256 * (t.val % 8) + R.val + 30) : glAt x0 x2 x3 R j = A.gl (seqOf t) S j := by
  have hR := R.isLt
  unfold glAt Args.gl
  rw [dif_pos (by omega), projAt_eq A t x0 x2 x3 hx0 hx2 hx3, projAt_eq A t x0 x2 x3 hx0 hx2 hx3]
  have e : rowOf t R = ⟨S - 30, by omega⟩ := Fin.ext (by show 256 * (t.val % 8) + R.val = S - 30; omega)
  rw [e]
  rfl

variable (u : ℕ → Vec Ideal S256x2048 .bf16) (hu : ∀ n, u n = normRows x0 x2)
  (arg4 : Memref sig .tc .vmem S2048x5120 .bf16) (harg4 : arg4.IsWhole)
  (arg5 : Memref sig .tc .vmem S3x1024 .f32) (harg5 : arg5.IsWhole)
  (arg19 : Memref sig .tc .vmem S264x1024 .f32) (p : Vec Ideal S8x1024 .f32) (hb : ℕ → Vec Ideal S32x256 .f32)
  (hp : ∀ r j, p (ix2 r j) = A.cv (seqOf t) (256 * (t.val % 8) + r.val - 6) j)
  (hhb : ∀ (r : Fin 32) (i : Fin 256) (j : Fin 1024), i.val = j.val % 256 → hb (j.val / 256) (ix2 r i) = A.gl (seqOf t) (256 * (t.val % 8) + r.val - 2) j)
  (x4 : Vec Ideal S3x1024 .f32) (hx4 : ∀ k j, x4 (ix2 k j) = A.convA (ix3 0 k j))
  (T : List (View.Piece (Elt Ideal) S264x1024 .f32)) (T' : List (View.Piece (Elt Ideal) S288x1024 .f32))
  (U : List (View.Piece (Elt Ideal) S256x2048 .bf16)) (P : Fin 8 → Vec Ideal S32x1024 .bf16)

include hu hp hhb hx4

/-- The pieces a step writes, when the rows above are right. -/
theorem after_lists : After A t (View.canon (listA u (part arg4 harg4 x3) arg19 p T 4)) (View.canon (listB u (part arg4 harg4 x3) hb T' 4))
    (View.canon (rightList P ++ (gatedList u (part arg4 harg4 x3) arg19
      (fun n => bodyA u (part arg4 harg4 x3) n :: listA u (part arg4 harg4 x3) arg19 p T n) arg5 harg5 x4 ++ U))) where
  rowsA r j hr := by
    refine (listA_after u (part arg4 harg4 x3) arg19 p T r hr j 4 le_rfl j.isLt).trans ?_
    rw [prod_part x0 x2 x3 u hu]
    exact cvAt_eq A t x0 x2 x3 hx0 hx2 hx3 _ j _ (by dsimp only; omega)
  rowsB r j := by
    refine (listB_apply u (part arg4 harg4 x3) hb T' r j 4 le_rfl j.isLt).trans ?_
    split
    · rename_i h
      exact hhb _ _ j rfl
    · rw [glu_part x0 x2 x3 u hu]
      exact glAt_eq A t x0 x2 x3 hx0 hx2 hx3 _ j _ (by dsimp only; omega)
  left R j := by
    refine (right_left P _ R j).trans ((gated_left u (part arg4 harg4 x3) arg19 p T arg5 harg5 x4 U R j).trans ?_)
    rw [gated_part x0 x2 x3 u hu, projAt_eq A t x0 x2 x3 hx0 hx2 hx3]
    unfold Args.yA
    refine congrArg₂ (· * ·) ?_ (Finset.sum_congr rfl fun k _ => ?_)
    · congr 1
      exact Fin.ext (Nat.zero_add _)
    · have hs : (rowOf t R).val = 256 * (t.val % 8) + R.val := rfl
      refine congrArg₂ (· * ·) (hx4 k j) ?_
      split
      · rw [hp]
        congr 1
        dsimp only
        omega
      · exact cvAt_eq A t x0 x2 x3 hx0 hx2 hx3 _ j _ (by dsimp only; omega)

end block

end Cert.Mix
-- ==== Proof.MixOut.lean ====
/-
  The rows of a tile that the step after the tile's own puts out.
-/
module

public import proofs.«01_k».proof.Proof.MixFacts

@[expose] public section

set_option maxRecDepth 65536

noncomputable section

namespace Cert.Mix

open Idealize.ShloMosaic Idealize.ShloMosaic.TcCoe Idealize.ShloMosaic.Tactic
open Cert.KernelIdeal Cert.KernelIdeal.Gen

theorem shifted_word {F : FTy → Type} [FloatOps F] (c : Dev nD) (arg6 : Memref sig .tc .vmem S31x1024 .f32) (harg6 : arg6.IsWhole)
    (arg7 : Memref sig .tc .vmem S1x1024 .f32) (harg7 : arg7.IsWhole) (arg20 : Memref sig .tc .vmem S288x1024 .f32) (harg20 : arg20.IsWhole)
    (x5 : Vec F S31x1024 .f32) (x6 : Vec F S1x1024 .f32) (xs3 : Vec F S288x1024 .f32) :
    ∃ w : IVec S8x128 32, kernelRun0_B.sl.r_23 c arg6 harg6 arg7 harg7 arg20 harg20 x5 x6 xs3 = shrui w (broadcast S8x128 16#32) := ⟨_, rfl⟩

variable (A : Args) (t : Fin 64)
  (c : Dev nD) (i : grid0.Coords) (arg1 : Memref sig .tc .vmem S256x2048 .f32) (harg1 : arg1.IsWhole)
  (arg2 : Memref sig .tc .vmem S256x2048 .f32) (harg2 : arg2.IsWhole) (arg3 : Memref sig .tc .vmem S1x2048 .f32)
  (harg3 : arg3.IsWhole) (arg4 : Memref sig .tc .vmem S2048x5120 .bf16) (harg4 : arg4.IsWhole)
  (arg5 : Memref sig .tc .vmem S3x1024 .f32) (harg5 : arg5.IsWhole) (arg6 : Memref sig .tc .vmem S31x1024 .f32)
  (harg6 : arg6.IsWhole) (arg7 : Memref sig .tc .vmem S1x1024 .f32) (harg7 : arg7.IsWhole)
  (arg8 : Memref sig .tc .vmem S1x1024 .f32) (harg8 : arg8.IsWhole) (arg9 : Memref sig .tc .vmem S1x1024 .f32)
  (harg9 : arg9.IsWhole) (arg10 : Memref sig .tc .vmem S2048x2048 .bf16) (harg10 : arg10.IsWhole)
  (arg11 : Memref sig .tc .vmem S1x2048 .f32) (harg11 : arg11.IsWhole)
  (arg17 : Memref sig .tc .vmem S256x2048 .bf16) (arg18 : Memref sig .tc .vmem S256x2048 .bf16)
  (arg19 : Memref sig .tc .vmem S264x1024 .f32) (harg19 : arg19.IsWhole)
  (arg20 : Memref sig .tc .vmem S288x1024 .f32) (harg20 : arg20.IsWhole) (arg21 : Memref sig .tc .vmem S256x1024 .f32)
  (arg22 : Memref sig .tc .vmem S256x2048 .f32)
  (arg23 : Memref sig .tc .vmem S256x2048 .bf16) (harg23 : arg23.IsWhole) (x0 : Vec Ideal S256x2048 .f32)
  (x1 : Vec Ideal S256x2048 .f32) (x2 : Vec Ideal S1x2048 .f32) (x3 : Vec Ideal S2048x5120 .bf16) (x4 : Vec Ideal S3x1024 .f32)
  (x5 : Vec Ideal S31x1024 .f32) (x6 : Vec Ideal S1x1024 .f32) (x7 : Vec Ideal S1x1024 .f32) (x8 : Vec Ideal S1x1024 .f32)
  (x9 : Vec Ideal S2048x2048 .bf16) (x10 : Vec Ideal S1x2048 .f32)
  (xs2 : Vec Ideal S264x1024 .f32) (xs3 : Vec Ideal S288x1024 .f32) (xs6 : Vec Ideal S256x2048 .bf16)
  (hs : After A t xs2 xs3 xs6)
  (hx1 : ∀ R k, x1 (ix2 R k) = A.x (ix3 (seqOf t) (rowOf t R) k)) (hx5 : ∀ k j, x5 (ix2 k j) = A.convB (ix3 0 k j))
  (hx6 : ∀ j, x6 (ix2 0 j) = A.biasB (ix2 0 j)) (hx7 : ∀ j, x7 (ix2 0 j) = A.lnGain (ix2 0 j)) (hx8 : ∀ j, x8 (ix2 0 j) = A.lnBias (ix2 0 j))
  (hx9 : ∀ k j, x9 (ix2 k j) = A.wOut (ix3 0 k j)) (hx10 : ∀ j, x10 (ix2 0 j) = A.postGain (ix2 0 j))

include hs hx5 hx6 in
/-- The long convolution of the tile's rows. -/
theorem convRows_eq (R : Fin 256) (j : Fin 1024) : convRows xs3 x5 x6 (ix2 R j) = A.gB (seqOf t) (rowOf t R) j := by
  show x6 (ix2 0 j) + ∑ k : Fin 31, x5 (ix2 k j) * xs3 (ix2 ⟨R.val + k.val + 2, by omega⟩ j) = _
  unfold Args.gB
  rw [hx6]
  refine congrArg _ (Finset.sum_congr rfl fun k _ => ?_)
  rw [hx5, hs.rowsB]
  refine congrArg _ ?_
  congr 1
  show 256 * (t.val % 8) + (R.val + k.val + 2) - 2 = 256 * (t.val % 8) + R.val + k.val
  omega

include hs hx5 hx6 hx7 hx8 in
/-- Its rows, normalised and put through the gate, as the buffer of both results holds them. -/
theorem right_eq (R : Fin 256) (j : Fin 1024) :
    arg23.view.readCov (mixedB c i arg1 harg1 arg3 harg3 arg4 harg4 arg5 harg5 arg6 harg6 arg7 harg7 arg8 harg8 arg9 harg9 arg17 arg18 arg19 harg19
      arg20 harg20 arg21 x0 x2 x3 x4 x5 x6 x7 x8 xs2 xs3) (box 0 1024 256 1024 (by decide) (by decide)).toLoadRect (ix2 R j)
    = A.nB (seqOf t) (rowOf t R) j * Ideal.logistic (A.nB (seqOf t) (rowOf t R) j) := by
  refine (cov_apply arg23 _ 0 1024 256 1024 _ _ R j).trans ?_
  have e : (ix2 ⟨0 + R.val, by omega⟩ ⟨1024 + j.val, by omega⟩ : S256x2048.Idx) = ix2 R ⟨1024 + j.val, by omega⟩ := by
    congr 1; exact Fin.ext (Nat.zero_add _)
  refine (congrArg _ e).trans ?_
  refine (right_right _ _ R j).trans ?_
  refine (pay644_apply _ _ _ _ j).trans ?_
  have hl : (fun k : Fin 1024 => arg21.view.readCov (gcList arg6 harg6 arg7 harg7 arg20 harg20 x5 x6 xs3)
      (box (32 * (7 - (7 - R.val / 32))) 0 32 1024 (by omega) (by decide)).toLoadRect (ix2 (⟨R.val % 32, Nat.mod_lt _ (by decide)⟩ : Fin 32) k))
      = A.gB (seqOf t) (rowOf t R) := by
    funext k
    refine (cov_apply arg21 _ _ 0 32 1024 _ _ _ k).trans ?_
    rw [gc_canon]
    refine Eq.trans ?_ (convRows_eq A t x5 x6 xs2 xs3 xs6 hs hx5 hx6 R k)
    refine congrArg _ ?_
    congr 1
    · exact Fin.ext (by dsimp only; omega)
    · exact Fin.ext (Nat.zero_add _)
  have hg : (fun k : Fin 1024 => load arg8 harg8 x7 0 0 1 1024 (by decide) (by decide) (ix2 0 k)) = fun k => A.lnGain (ix2 0 k) := by
    funext k
    refine (load_apply arg8 harg8 x7 0 0 1 1024 _ _ 0 k).trans ((congrArg x7 ?_).trans (hx7 k))
    congr 1
    exact Fin.ext (Nat.zero_add _)
  have hb : (fun k : Fin 1024 => load arg9 harg9 x8 0 0 1 1024 (by decide) (by decide) (ix2 0 k)) = fun k => A.lnBias (ix2 0 k) := by
    funext k
    refine (load_apply arg9 harg9 x8 0 0 1 1024 _ _ 0 k).trans ((congrArg x8 ?_).trans (hx8 k))
    congr 1
    exact Fin.ext (Nat.zero_add _)
  have hn := congrArg (fun f => lnorm f (fun k => A.lnGain (ix2 0 k)) (fun k => A.lnBias (ix2 0 k)) j) hl
  rw [← hg, ← hb] at hn
  have hn' : A.nB (seqOf t) (rowOf t R) j = lnorm (A.gB (seqOf t) (rowOf t R))
    (fun k : Fin 1024 => load arg8 harg8 x7 0 0 1 1024 (by decide) (by decide) (ix2 0 k))
    (fun k : Fin 1024 => load arg9 harg9 x8 0 0 1 1024 (by decide) (by decide) (ix2 0 k)) j := by
    rw [hg, hb]; rfl
  rw [hn', ← hn]

include hs hx1 hx5 hx6 hx7 hx8 hx9 hx10 in
/-- The rows put out. -/
theorem out_eq (R : Fin 256) (j : Fin 2048) :
    k0_pay1
      (arg22.view.readCov [⟨box 0 0 256 2048 (by decide) (by decide), k0_pay39 (load arg23 harg23 xs6 0 0 256 1024 (by decide) (by decide))
        (kernelRun0_B.sl.r_23 c arg6 harg6 arg7 harg7 arg20 harg20 x5 x6 xs3) (load arg10 harg10 x9 0 0 1024 2048 (by decide) (by decide))⟩]
        (box 0 0 256 2048 (by decide) (by decide)).toLoadRect)
      (arg23.view.readCov (mixedB c i arg1 harg1 arg3 harg3 arg4 harg4 arg5 harg5 arg6 harg6 arg7 harg7 arg8 harg8 arg9 harg9 arg17 arg18 arg19 harg19
      arg20 harg20 arg21 x0 x2 x3 x4 x5 x6 x7 x8 xs2 xs3) (box 0 1024 256 1024 (by decide) (by decide)).toLoadRect)
      (load arg10 harg10 x9 1024 0 1024 2048 (by decide) (by decide)) (load arg2 harg2 x1 0 0 256 2048 (by decide) (by decide))
      (load arg11 harg11 x10 0 0 1 2048 (by decide) (by decide)) (ix2 R j)
    = A.out (seqOf t) (rowOf t R) j := by
  refine (pay1_apply _ _ _ _ _ (A.o (seqOf t) (rowOf t R)) R j fun l => ?_).trans ?_
  · unfold Args.o
    refine congrArg₂ (· + ·) ?_ (Finset.sum_congr rfl fun k _ => congrArg₂ (· * ·) ?_ ?_)
    · obtain ⟨w, hw⟩ := shifted_word c arg6 harg6 arg7 harg7 arg20 harg20 x5 x6 xs3
      refine (congrFun (whole_read arg22 _ _) (ix2 R l)).trans ?_
      rw [hw]
      refine (pay39_apply _ _ _ R l).trans (Finset.sum_congr rfl fun k _ => congrArg₂ (· * ·) ?_ ?_)
      · refine (load_apply arg23 harg23 xs6 0 0 256 1024 _ _ R k).trans (Eq.trans (congrArg xs6 ?_) (hs.left R k))
        congr 1
        · exact Fin.ext (Nat.zero_add _)
        · exact Fin.ext (Nat.zero_add _)
      · refine (load_apply arg10 harg10 x9 0 0 1024 2048 _ _ k l).trans ((hx9 _ _).trans ?_)
        congr 2
        · exact Fin.ext (Nat.zero_add _)
        · exact Fin.ext (Nat.zero_add _)
    · exact right_eq A t c i arg1 harg1 arg3 harg3 arg4 harg4 arg5 harg5 arg6 harg6 arg7 harg7 arg8 harg8 arg9 harg9 arg17 arg18 arg19 harg19
        arg20 harg20 arg21 arg23 x0 x2 x3 x4 x5 x6 x7 x8 xs2 xs3 xs6 hs hx5 hx6 hx7 hx8 R k
    · refine (load_apply arg10 harg10 x9 1024 0 1024 2048 _ _ k l).trans ((hx9 _ _).trans ?_)
      congr 2
      exact Fin.ext (Nat.zero_add _)
  · unfold Args.out
    refine congrArg₂ (· + ·) ?_ (congrArg _ ?_)
    · refine (load_apply arg2 harg2 x1 0 0 256 2048 _ _ R j).trans ((congrArg x1 ?_).trans (hx1 R j))
      congr 1
      · exact Fin.ext (Nat.zero_add _)
      · exact Fin.ext (Nat.zero_add _)
    · refine (load_apply arg11 harg11 x10 0 0 1 2048 _ _ 0 j).trans ((congrArg x10 ?_).trans (hx10 j))
      congr 1
      exact Fin.ext (Nat.zero_add _)

end Cert.Mix
-- ==== Proof.MixSteps.lean ====
/-
  What each of the mixer's steps leaves in the buffers it carries and puts out, over the reals.
-/
module

public import proofs.«01_k».proof.Proof.MixOut
public import proofs.«01_k».proof.Proof.Gen.KernelIdeal.Frame

@[expose] public section

set_option maxRecDepth 65536

noncomputable section

namespace Cert.Mix

open Idealize.ShloMosaic Idealize.ShloMosaic.TcCoe Idealize.ShloMosaic.Tactic
open Cert.KernelIdeal Cert.KernelIdeal.Gen

section casts

variable {F : FTy → Type} [FloatOps F]
variable (c : Dev nD) (i : grid0.Coords) (arg1 : Memref sig .tc .vmem S256x2048 .f32) (harg1 : arg1.IsWhole)
  (arg2 : Memref sig .tc .vmem S256x2048 .f32) (harg2 : arg2.IsWhole) (arg3 : Memref sig .tc .vmem S1x2048 .f32)
  (harg3 : arg3.IsWhole) (arg4 : Memref sig .tc .vmem S2048x5120 .bf16) (harg4 : arg4.IsWhole)
  (arg5 : Memref sig .tc .vmem S3x1024 .f32) (harg5 : arg5.IsWhole) (arg6 : Memref sig .tc .vmem S31x1024 .f32)
  (harg6 : arg6.IsWhole) (arg7 : Memref sig .tc .vmem S1x1024 .f32) (harg7 : arg7.IsWhole)
  (arg8 : Memref sig .tc .vmem S1x1024 .f32) (harg8 : arg8.IsWhole) (arg9 : Memref sig .tc .vmem S1x1024 .f32)
  (harg9 : arg9.IsWhole) (arg10 : Memref sig .tc .vmem S2048x2048 .bf16) (harg10 : arg10.IsWhole)
  (arg11 : Memref sig .tc .vmem S1x2048 .f32) (harg11 : arg11.IsWhole) (arg12 : Memref sig .tc .vmem S32x8192 .f32)
  (harg12 : arg12.IsWhole) (arg13 : Memref sig .tc .vmem S128x2048 .f32) (harg13 : arg13.IsWhole)
  (arg14 : Memref sig .tc .vmem S256x2048 .f32) (harg14 : arg14.IsWhole) (arg15 : Memref sig .tc .vmem S32x8192 .bf16)
  (harg15 : arg15.IsWhole) (arg16 : Memref sig .tc .vmem S128x2048 .bf16) (harg16 : arg16.IsWhole)
  (arg17 : Memref sig .tc .vmem S256x2048 .bf16) (harg17 : arg17.IsWhole) (arg18 : Memref sig .tc .vmem S256x2048 .bf16)
  (harg18 : arg18.IsWhole) (arg19 : Memref sig .tc .vmem S264x1024 .f32) (harg19 : arg19.IsWhole)
  (arg20 : Memref sig .tc .vmem S288x1024 .f32) (harg20 : arg20.IsWhole) (arg21 : Memref sig .tc .vmem S256x1024 .f32)
  (harg21 : arg21.IsWhole) (arg22 : Memref sig .tc .vmem S256x2048 .f32) (harg22 : arg22.IsWhole)
  (arg23 : Memref sig .tc .vmem S256x2048 .bf16) (harg23 : arg23.IsWhole)
  (x0 : Vec F S256x2048 .f32)
  (x1 : Vec F S256x2048 .f32) (x2 : Vec F S1x2048 .f32) (x3 : Vec F S2048x5120 .bf16) (x4 : Vec F S3x1024 .f32)
  (x5 : Vec F S31x1024 .f32) (x6 : Vec F S1x1024 .f32) (x7 : Vec F S1x1024 .f32) (x8 : Vec F S1x1024 .f32)
  (x9 : Vec F S2048x2048 .bf16) (x10 : Vec F S1x2048 .f32) (x11 : Vec F S32x8192 .f32) (x12 : Vec F S128x2048 .f32)
  (xs2 : Vec F S264x1024 .f32) (xs3 : Vec F S288x1024 .f32) (xs6 : Vec F S256x2048 .bf16)

theorem wordsA_14 (hc0 : cond0_0 i) : (kernelRun0_A c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 arg20 harg20 arg21 harg21 arg22 harg22 arg23 harg23
    hc0 x0 x1 x2 x3 x4 x5 x6 x7 x8 x9 x10 x11 x12).2.1 = [⟨box 0 0 32 8192 (by decide) (by decide), k0_pay6 (load arg12 harg12 x11 0 0 32 8192 (by decide)
    (by decide))⟩] := by
  sl_kernel_rfl

theorem wordsA_15 (hc0 : cond0_0 i) : (kernelRun0_A c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 arg20 harg20 arg21 harg21 arg22 harg22 arg23 harg23
    hc0 x0 x1 x2 x3 x4 x5 x6 x7 x8 x9 x10 x11 x12).2.2.1 = [⟨box 0 0 128 2048 (by decide) (by decide), k0_pay7 (load arg13 harg13 x12 0 0 128 2048 (by
    decide) (by decide))⟩] := by
  sl_kernel_rfl

theorem wordsB_14 (hc0 : ¬cond0_0 i) : (kernelRun0_B c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 arg20 harg20 arg21 harg21 arg22 harg22 arg23 harg23
    hc0 x0 x1 x2 x3 x4 x5 x6 x7 x8 x9 x10 x11 x12 xs2 xs3 xs6).2.1 = [⟨box 0 0 32 8192 (by decide) (by decide), k0_pay6 (load arg12 harg12 x11 0 0 32 8192
    (by decide) (by decide))⟩] := by
  sl_kernel_rfl

theorem wordsB_15 (hc0 : ¬cond0_0 i) : (kernelRun0_B c i arg1 harg1 arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 arg20 harg20 arg21 harg21 arg22 harg22 arg23 harg23
    hc0 x0 x1 x2 x3 x4 x5 x6 x7 x8 x9 x10 x11 x12 xs2 xs3 xs6).2.2.1 = [⟨box 0 0 128 2048 (by decide) (by decide), k0_pay7 (load arg13 harg13 x12 0 0 128
    2048 (by decide) (by decide))⟩] := by
  sl_kernel_rfl

end casts

/-- A whole block written once is what was written. -/
theorem canon_whole {n m : ℕ} {e : EltTy} (v : Vec Ideal ⟨2, ![n, m]⟩ e) (r : Fin n) (j : Fin m) :
    View.canon [⟨box (n := n) (m := m) 0 0 n m (by omega) (by omega), v⟩] (ix2 r j) = v (ix2 r j) :=
  canon_hit 0 0 n m _ _ v [] r j (by omega) (by omega)

variable (A : Args) (t : Fin 64)
  (c : Dev nD) (i : grid0.Coords) (arg1 : Memref sig .tc .vmem S256x2048 .f32) (harg1 : arg1.IsWhole)
  (arg2 : Memref sig .tc .vmem S256x2048 .f32) (harg2 : arg2.IsWhole) (arg3 : Memref sig .tc .vmem S1x2048 .f32)
  (harg3 : arg3.IsWhole) (arg4 : Memref sig .tc .vmem S2048x5120 .bf16) (harg4 : arg4.IsWhole)
  (arg5 : Memref sig .tc .vmem S3x1024 .f32) (harg5 : arg5.IsWhole) (arg6 : Memref sig .tc .vmem S31x1024 .f32)
  (harg6 : arg6.IsWhole) (arg7 : Memref sig .tc .vmem S1x1024 .f32) (harg7 : arg7.IsWhole)
  (arg8 : Memref sig .tc .vmem S1x1024 .f32) (harg8 : arg8.IsWhole) (arg9 : Memref sig .tc .vmem S1x1024 .f32)
  (harg9 : arg9.IsWhole) (arg10 : Memref sig .tc .vmem S2048x2048 .bf16) (harg10 : arg10.IsWhole)
  (arg11 : Memref sig .tc .vmem S1x2048 .f32) (harg11 : arg11.IsWhole) (arg12 : Memref sig .tc .vmem S32x8192 .f32)
  (harg12 : arg12.IsWhole) (arg13 : Memref sig .tc .vmem S128x2048 .f32) (harg13 : arg13.IsWhole)
  (arg14 : Memref sig .tc .vmem S256x2048 .f32) (harg14 : arg14.IsWhole) (arg15 : Memref sig .tc .vmem S32x8192 .bf16)
  (harg15 : arg15.IsWhole) (arg16 : Memref sig .tc .vmem S128x2048 .bf16) (harg16 : arg16.IsWhole)
  (arg17 : Memref sig .tc .vmem S256x2048 .bf16) (harg17 : arg17.IsWhole) (arg18 : Memref sig .tc .vmem S256x2048 .bf16)
  (harg18 : arg18.IsWhole) (arg19 : Memref sig .tc .vmem S264x1024 .f32) (harg19 : arg19.IsWhole)
  (arg20 : Memref sig .tc .vmem S288x1024 .f32) (harg20 : arg20.IsWhole) (arg21 : Memref sig .tc .vmem S256x1024 .f32)
  (harg21 : arg21.IsWhole) (arg22 : Memref sig .tc .vmem S256x2048 .f32) (harg22 : arg22.IsWhole)
  (arg23 : Memref sig .tc .vmem S256x2048 .bf16) (harg23 : arg23.IsWhole)
  (x0 : Vec Ideal S256x2048 .f32)
  (x1 : Vec Ideal S256x2048 .f32) (x2 : Vec Ideal S1x2048 .f32) (x3 : Vec Ideal S2048x5120 .bf16) (x4 : Vec Ideal S3x1024 .f32)
  (x5 : Vec Ideal S31x1024 .f32) (x6 : Vec Ideal S1x1024 .f32) (x7 : Vec Ideal S1x1024 .f32) (x8 : Vec Ideal S1x1024 .f32)
  (x9 : Vec Ideal S2048x2048 .bf16) (x10 : Vec Ideal S1x2048 .f32) (x11 : Vec Ideal S32x8192 .f32) (x12 : Vec Ideal S128x2048 .f32)
  (xs2 : Vec Ideal S264x1024 .f32) (xs3 : Vec Ideal S288x1024 .f32) (xs6 : Vec Ideal S256x2048 .bf16)

theorem load_whole {n m : ℕ} {e : EltTy} (M : Memref sig .tc .vmem ⟨2, ![n, m]⟩ e) (hM : M.IsWhole) (X : Vec Ideal ⟨2, ![n, m]⟩ e)
    (r : Fin n) (j : Fin m) : load M hM X 0 0 n m (by omega) (by omega) (ix2 r j) = X (ix2 r j) := by
  refine (load_apply M hM X 0 0 n m _ _ r j).trans (congrArg X ?_)
  congr 1
  · exact Fin.ext (Nat.zero_add _)
  · exact Fin.ext (Nat.zero_add _)

theorem pay6_apply (x : Vec Ideal S32x8192 .f32) (r : Fin 32) (j : Fin 8192) : k0_pay6 x (ix2 r j) = x (ix2 r j) := by
  pointwise [k0_pay6]

theorem pay7_apply (x : Vec Ideal S128x2048 .f32) (r : Fin 128) (j : Fin 2048) : k0_pay7 x (ix2 r j) = x (ix2 r j) := by
  pointwise [k0_pay7]

theorem castA_14 (hc0 : cond0_0 i) (r : Fin 32) (j : Fin 8192) : out0_A_14 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 (ix2 r j) = x11 (ix2 r j) := by
  refine (congrFun (View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12)) _).trans ?_
  rw [wordsA_14]
  exact (canon_whole _ r j).trans ((pay6_apply _ r j).trans (load_whole arg12 harg12 x11 r j))

theorem castA_15 (hc0 : cond0_0 i) (r : Fin 128) (j : Fin 2048) : out0_A_15 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 (ix2 r j) = x12 (ix2 r j) := by
  refine (congrFun (View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12)) _).trans ?_
  rw [wordsA_15]
  exact (canon_whole _ r j).trans ((pay7_apply _ r j).trans (load_whole arg13 harg13 x12 r j))

theorem castB_14 (hc0 : ¬cond0_0 i) (r : Fin 32) (j : Fin 8192) : out0_B_14 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 xs2 xs3 xs6 (ix2 r j) = x11 (ix2 r j) := by
  refine (congrFun (View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 xs2 xs3 xs6)) _).trans ?_
  rw [wordsB_14]
  exact (canon_whole _ r j).trans ((pay6_apply _ r j).trans (load_whole arg12 harg12 x11 r j))

theorem castB_15 (hc0 : ¬cond0_0 i) (r : Fin 128) (j : Fin 2048) : out0_B_15 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 xs2 xs3 xs6 (ix2 r j) = x12 (ix2 r j) := by
  refine (congrFun (View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 xs2 xs3 xs6)) _).trans ?_
  rw [wordsB_15]
  exact (canon_whole _ r j).trans ((pay7_apply _ r j).trans (load_whole arg13 harg13 x12 r j))

section steps

variable (hx0 : ∀ R k, x0 (ix2 R k) = A.x (ix3 (seqOf t) (rowOf t R) k)) (hx2 : ∀ k, x2 (ix2 0 k) = A.preGain (ix2 0 k))
  (hx3 : ∀ k j, x3 (ix2 k j) = A.wIn (ix3 0 k j)) (hx4 : ∀ k j, x4 (ix2 k j) = A.convA (ix3 0 k j))

include hx0 hx2 hx3 hx4

/-- The first step. -/
theorem stepA (hc0 : cond0_0 i) (hi : (i 0).val = 0) (ht : t.val = 0) : After A t
    (sout0_A_2 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12)
    (sout0_A_3 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12)
    (sout0_A_6 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12) := by
  have h2 := (View.read_writes_eq_canon VS0_2 VS0_2.junk _ (scover0_A_2 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12)).trans (congrArg View.canon (wordsA_2 ..))
  have h3 := (View.read_writes_eq_canon VS0_3 VS0_3.junk _ (scover0_A_3 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12)).trans (congrArg View.canon (wordsA_3 ..))
  have h6 := (View.read_writes_eq_canon VS0_6 VS0_6.junk _ (scover0_A_6 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12)).trans (congrArg View.canon (wordsA_6 ..))
  rw [show sout0_A_2 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 = _ from h2, show sout0_A_3 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 = _ from h3,
    show sout0_A_6 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 = _ from h6]
  refine after_lists A t x0 x2 x3 hx0 hx2 hx3 _ (uA_eq c i arg1 harg1 arg3 harg3 arg4 harg4 arg6 harg6 arg7 harg7 arg17 arg18 arg20 x0 x2 x3 x5 x6) arg4 harg4 arg5 harg5 arg19 _ _ ?_ ?_ x4 hx4 _ _ _ _
  · intro r j
    rw [pay5_apply, if_pos (by rw [hi])]
    unfold Args.cv
    rw [dif_neg (by omega)]
  · intro r k j hk
    have hz : ∀ n, (headA c i arg1 harg1 arg3 harg3 arg4 harg4 arg6 harg6 arg7 harg7 arg17 arg18 arg20 x0 x2 x3 x5 x6) n (ix2 r k) = 0 := fun n => by
      match n with
      | 0 => exact (pay147_apply i _ _).trans (if_pos (by rw [hi]))
      | 1 => exact (pay147_apply i _ _).trans (if_pos (by rw [hi]))
      | 2 => exact (pay147_apply i _ _).trans (if_pos (by rw [hi]))
      | n + 3 => exact (pay147_apply i _ _).trans (if_pos (by rw [hi]))
    refine (hz _).trans ?_
    unfold Args.gl
    rw [dif_neg (by omega)]

/-- A later step, over what the step before left. -/
theorem stepB (hc0 : ¬cond0_0 i) (hi : (i 0).val = t.val) (s : Fin 64) (hst : t.val = s.val + 1) (hs : After A s xs2 xs3 xs6) : After A t
    (sout0_B_2 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 xs2 xs3 xs6)
    (sout0_B_3 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 xs2 xs3 xs6)
    (sout0_B_6 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 xs2 xs3 xs6) := by
  have h2 := (View.read_writes_eq_canon VS0_2 VS0_2.junk _ (scover0_B_2 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 xs2 xs3 xs6)).trans (congrArg View.canon (wordsB_2 ..))
  have h3 := (View.read_writes_eq_canon VS0_3 VS0_3.junk _ (scover0_B_3 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 xs2 xs3 xs6)).trans (congrArg View.canon (wordsB_3 ..))
  have h6 := (View.read_writes_eq_canon VS0_6 VS0_6.junk _ (scover0_B_6 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 xs2 xs3 xs6)).trans (congrArg View.canon (wordsB_6 ..))
  rw [show sout0_B_2 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 xs2 xs3 xs6 = _ from h2, show sout0_B_3 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 xs2 xs3 xs6 = _ from h3,
    show sout0_B_6 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 xs2 xs3 xs6 = _ from h6]
  unfold mixedB
  refine after_lists A t x0 x2 x3 hx0 hx2 hx3 _ (uB_eq c arg1 harg1 arg3 harg3 arg6 harg6 arg7 harg7 arg17 arg18 arg20 harg20 x0 x2 x5 x6 xs3) arg4 harg4 arg5 harg5 arg19 _ _ ?_ ?_ x4 hx4 _ _ _ _
  · intro r j
    rw [pay5_apply, hi]
    split
    · unfold Args.cv
      rw [dif_neg (by omega)]
    · rename_i h
      refine (load_apply arg19 harg19 xs2 0 0 8 1024 _ _ r j).trans ((hs.rowsA _ _ (by dsimp only; omega)).trans ?_)
      have e : seqOf s = seqOf t := Fin.ext (by show s.val / 8 = t.val / 8; omega)
      rw [e]
      congr 1
      · dsimp only; omega
      · exact Fin.ext (Nat.zero_add _)
  · intro r k j hk
    refine (pay147_apply i _ _).trans ?_
    rw [hi]
    split
    · unfold Args.gl
      rw [dif_neg (by omega)]
    · rename_i h
      refine (load_apply arg20 harg20 xs3 256 (256 * (j.val / 256 % 4)) 32 256 _ _ r k).trans ((hs.rowsB _ _).trans ?_)
      have e : seqOf s = seqOf t := Fin.ext (by show s.val / 8 = t.val / 8; omega)
      rw [e]
      congr 1
      · dsimp only; omega
      · exact Fin.ext (by dsimp only; omega)

end steps

/-- The rows a later step puts out, over what the step before left. -/
theorem stepOut (hc0 : ¬cond0_0 i) (hs : After A t xs2 xs3 xs6)
    (hx1 : ∀ R k, x1 (ix2 R k) = A.x (ix3 (seqOf t) (rowOf t R) k)) (hx5 : ∀ k j, x5 (ix2 k j) = A.convB (ix3 0 k j))
    (hx6 : ∀ j, x6 (ix2 0 j) = A.biasB (ix2 0 j)) (hx7 : ∀ j, x7 (ix2 0 j) = A.lnGain (ix2 0 j)) (hx8 : ∀ j, x8 (ix2 0 j) = A.lnBias (ix2 0 j))
    (hx9 : ∀ k j, x9 (ix2 k j) = A.wOut (ix3 0 k j)) (hx10 : ∀ j, x10 (ix2 0 j) = A.postGain (ix2 0 j)) (R : Fin 256) (j : Fin 2048) :
    out0_B_13 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 xs2 xs3 xs6 (ix2 R j) = A.out (seqOf t) (rowOf t R) j := by
  refine (congrFun (View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 arg20 harg20 arg21 harg21 arg22 harg22 arg23 harg23 hc0 x0 x1 x2
    x3 x4 x5 x6 x7 x8 x9 x10 x11 x12 xs2 xs3 xs6)) _).trans ?_
  rw [wordsB_13]
  exact (canon_whole _ R j).trans (out_eq A t c i arg1 harg1 arg2 harg2 arg3 harg3 arg4 harg4 arg5 harg5 arg6 harg6 arg7 harg7 arg8 harg8 arg9 harg9 arg10 harg10 arg11 harg11 arg17
    arg18 arg19 harg19 arg20 harg20 arg21 arg22 arg23 harg23 x0 x1 x2 x3 x4 x5 x6 x7 x8 x9 x10 xs2 xs3 xs6 hs hx1 hx5 hx6 hx7 hx8 hx9 hx10 R j)

end Cert.Mix
-- ==== Proof.MixValue.lean ====
/-
  The mixer kernel's value over the reals: what every step leaves, and the output arrays.
-/
module

public import proofs.«01_k».proof.Proof.MixSteps
public import proofs.«01_k».proof.Defs
public import Idealize.ShloMosaic.Lib.Pipeline.ValueKit
public import Idealize.ShloMosaic.Lib.Pointwise

@[expose] public section

set_option maxRecDepth 16384

noncomputable section

namespace Cert.Mix

open Idealize.ShloMosaic Idealize.ShloMosaic.TcCoe Idealize.ShloMosaic.Tactic
open Idealize.SL.Sem
open Cert.KernelIdeal Cert.KernelIdeal.Gen

/-- The index maps of the windows at every grid point. -/
theorem idx : ∀ t : Fin grid0.N, win0_0.index t = ![min t.val 63, 0] ∧ win0_1.index t = ![t.val - 1, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![min t.val 63, 0] ∧ win0_12.index t = ![min t.val 63, 0]
    ∧ win0_13.index t = ![t.val - 1, 0] ∧ win0_14.index t = ![min t.val 63, 0] ∧ win0_15.index t = ![min t.val 63, 0] := by
  decide +kernel

/-- The parts of a six-tuple given whole. -/
theorem parts {α₁ α₂ α₃ α₄ α₅ α₆ : Type} {p : α₁ × α₂ × α₃ × α₄ × α₅ × α₆} {a₁ : α₁} {a₂ : α₂} {a₃ : α₃} {a₄ : α₄} {a₅ : α₅} {a₆ : α₆}
    (h : p = (a₁, a₂, a₃, a₄, a₅, a₆)) :
    p.1 = a₁ ∧ p.2.1 = a₂ ∧ p.2.2.1 = a₃ ∧ p.2.2.2.1 = a₄ ∧ p.2.2.2.2.1 = a₅ ∧ p.2.2.2.2.2 = a₆ := by
  subst h
  exact ⟨rfl, rfl, rfl, rfl, rfl, rfl⟩

variable (m : (ℓ : Loc nD τ sig) → Buf (Elt Ideal) ℓ) (c : Dev nD)

/-- The kernel's arguments. -/
def argsOf : Args where
  x := m ((c : Thread nD τ).loc main_arg0)
  preGain := m ((c : Thread nD τ).loc main_arg1)
  wIn := m ((c : Thread nD τ).loc main_arg2)
  convA := m ((c : Thread nD τ).loc main_arg3)
  convB := m ((c : Thread nD τ).loc main_arg4)
  biasB := m ((c : Thread nD τ).loc main_arg5)
  lnGain := m ((c : Thread nD τ).loc main_arg6)
  lnBias := m ((c : Thread nD τ).loc main_arg7)
  wOut := m ((c : Thread nD τ).loc main_arg8)
  postGain := m ((c : Thread nD τ).loc main_arg9)

/-- The tile a point projects, and the one before. -/
def tileOf (t : Fin cfg0.N) : Fin 64 := ⟨min t.val 63, by omega⟩
def tileBefore (t : Fin cfg0.N) : Fin 64 := ⟨t.val - 1, by have := t.isLt; have : cfg0.N = 65 := N_0; omega⟩

theorem blk_cur (t : Fin cfg0.N) (R : Fin 256) (k : Fin 2048) :
    iblk m c 0 t (ix2 R k) = (argsOf m c).x (ix3 (seqOf (tileOf t)) (rowOf (tileOf t) R) k) := by
  unfold argsOf seqOf rowOf tileOf
  dsimp only
  blk_ext! [iblk, V, idx t]

theorem blk_prev (t : Fin cfg0.N) (R : Fin 256) (k : Fin 2048) :
    iblk m c 1 t (ix2 R k) = (argsOf m c).x (ix3 (seqOf (tileBefore t)) (rowOf (tileBefore t) R) k) := by
  unfold argsOf seqOf rowOf tileBefore
  dsimp only
  blk_ext! [iblk, V, idx t]

theorem blk_2 (t : Fin cfg0.N) (j : Fin 2048) : iblk m c 2 t (ix2 0 j) = (argsOf m c).preGain (ix2 0 j) := by
  unfold argsOf
  dsimp only
  blk_ext! [iblk, V, idx t]

theorem blk_3 (t : Fin cfg0.N) (k : Fin 2048) (j : Fin 5120) : iblk m c 3 t (ix2 k j) = (argsOf m c).wIn (ix3 0 k j) := by
  unfold argsOf
  dsimp only
  blk_ext! [iblk, V, idx t]

theorem blk_4 (t : Fin cfg0.N) (k : Fin 3) (j : Fin 1024) : iblk m c 4 t (ix2 k j) = (argsOf m c).convA (ix3 0 k j) := by
  unfold argsOf
  dsimp only
  blk_ext! [iblk, V, idx t]

theorem blk_5 (t : Fin cfg0.N) (k : Fin 31) (j : Fin 1024) : iblk m c 5 t (ix2 k j) = (argsOf m c).convB (ix3 0 k j) := by
  unfold argsOf
  dsimp only
  blk_ext! [iblk, V, idx t]

theorem blk_6 (t : Fin cfg0.N) (j : Fin 1024) : iblk m c 6 t (ix2 0 j) = (argsOf m c).biasB (ix2 0 j) := by
  unfold argsOf
  dsimp only
  blk_ext! [iblk, V, idx t]

theorem blk_7 (t : Fin cfg0.N) (j : Fin 1024) : iblk m c 7 t (ix2 0 j) = (argsOf m c).lnGain (ix2 0 j) := by
  unfold argsOf
  dsimp only
  blk_ext! [iblk, V, idx t]

theorem blk_8 (t : Fin cfg0.N) (j : Fin 1024) : iblk m c 8 t (ix2 0 j) = (argsOf m c).lnBias (ix2 0 j) := by
  unfold argsOf
  dsimp only
  blk_ext! [iblk, V, idx t]

theorem blk_9 (t : Fin cfg0.N) (k j : Fin 2048) : iblk m c 9 t (ix2 k j) = (argsOf m c).wOut (ix3 0 k j) := by
  unfold argsOf
  dsimp only
  blk_ext! [iblk, V, idx t]

theorem blk_10 (t : Fin cfg0.N) (j : Fin 2048) : iblk m c 10 t (ix2 0 j) = (argsOf m c).postGain (ix2 0 j) := by
  unfold argsOf
  dsimp only
  blk_ext! [iblk, V, idx t]

theorem blk_11 (t : Fin cfg0.N) (r : Fin 32) (j : Fin 8192) :
    iblk m c 11 t (ix2 r j) = m ((c : Thread nD τ).loc main_arg10) (ix3 0 ⟨32 * (tileOf t).val + r.val, by omega⟩ j) := by
  unfold tileOf
  dsimp only
  blk_ext! [iblk, V, idx t]

theorem blk_12 (t : Fin cfg0.N) (r : Fin 128) (j : Fin 2048) :
    iblk m c 12 t (ix2 r j) = m ((c : Thread nD τ).loc main_arg11) (ix3 0 ⟨128 * (tileOf t).val + r.val, by omega⟩ j) := by
  unfold tileOf
  dsimp only
  blk_ext! [iblk, V, idx t]

theorem point (t : Fin cfg0.N) : (grid0.coords t 0).val = t.val := by
  have ht : t.val < 65 := Nat.lt_of_lt_of_eq t.isLt N_0
  have e : (grid0.coords t 0).val = t.val / 1 % 65 := Pipeline.Grid.coords_val t 0 (by decide) rfl
  omega

/-- After the first point. -/
theorem held_first (t : Fin cfg0.N) (h0 : t.val % 65 = 0) : After (argsOf m c) (tileOf t) (outsAt0 m c t.val t.isLt).2.2.2.1
    (outsAt0 m c t.val t.isLt).2.2.2.2.1 (outsAt0 m c t.val t.isLt).2.2.2.2.2 := by
  have ht : t.val < 65 := Nat.lt_of_lt_of_eq t.isLt N_0
  have e := (parts (outsAt0_A m c t h0)).2.2.2
  rw [e.1, e.2.1, e.2.2]
  exact stepA (argsOf m c) (tileOf t) c (grid0.coords t) (ms0_0 t) (hs0_0 t) (ms0_1 t) (hs0_1 t) (ms0_2 t) (hs0_2 t) (ms0_3 t) (hs0_3 t) (ms0_4 t) (hs0_4 t) (ms0_5
        t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
        (hs0_12 t) (ms0_13 t) (hs0_13 t) (ms0_14 t) (hs0_14 t) (ms0_15 t) (hs0_15 t) scM0_0 (Memref.isWhole_whole _) scM0_1 (Memref.isWhole_whole _) scM0_2
        (Memref.isWhole_whole _) scM0_3 (Memref.isWhole_whole _) scM0_4 (Memref.isWhole_whole _) scM0_5 (Memref.isWhole_whole _) scM0_6 (Memref.isWhole_whole
        _) (iblk m c 0 t) (iblk m c 1 t) (iblk m c 2 t) (iblk m c 3 t) (iblk m c 4 t) (iblk m c 5 t) (iblk m c 6 t) (iblk m c 7 t) (iblk m c 8 t) (iblk m c 9
        t) (iblk m c 10 t) (iblk m c 11 t) (iblk m c 12 t)
    (fun R k => blk_cur m c t R k) (blk_2 m c t) (blk_3 m c t) (blk_4 m c t) ((hcond0_0 t).mpr h0) (by rw [point]; omega) (by show min t.val 63 = 0; omega)

/-- After a later point that has a tile of its own. -/
theorem held_next (t : Fin cfg0.N) (h0 : ¬t.val % 65 = 0) (h64 : t.val < 64) (hs : After (argsOf m c) (tileBefore t) (outsAt0 m c (t.val - 1) (Nat.lt_of_le_of_lt (Nat.sub_le _ _) t.isLt)).2.2.2.1 (outsAt0 m c (t.val - 1) (Nat.lt_of_le_of_lt (Nat.sub_le _ _)
        t.isLt)).2.2.2.2.1 (outsAt0 m c (t.val - 1) (Nat.lt_of_le_of_lt (Nat.sub_le _ _) t.isLt)).2.2.2.2.2) :
    After (argsOf m c) (tileOf t) (outsAt0 m c t.val t.isLt).2.2.2.1
      (outsAt0 m c t.val t.isLt).2.2.2.2.1 (outsAt0 m c t.val t.isLt).2.2.2.2.2 := by
  have e := (parts (outsAt0_B m c t h0)).2.2.2
  rw [e.1, e.2.1, e.2.2]
  exact stepB (argsOf m c) (tileOf t) c (grid0.coords t) (ms0_0 t) (hs0_0 t) (ms0_1 t) (hs0_1 t) (ms0_2 t) (hs0_2 t) (ms0_3 t) (hs0_3 t) (ms0_4 t) (hs0_4 t) (ms0_5
        t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
        (hs0_12 t) (ms0_13 t) (hs0_13 t) (ms0_14 t) (hs0_14 t) (ms0_15 t) (hs0_15 t) scM0_0 (Memref.isWhole_whole _) scM0_1 (Memref.isWhole_whole _) scM0_2
        (Memref.isWhole_whole _) scM0_3 (Memref.isWhole_whole _) scM0_4 (Memref.isWhole_whole _) scM0_5 (Memref.isWhole_whole _) scM0_6 (Memref.isWhole_whole
        _) (iblk m c 0 t) (iblk m c 1 t) (iblk m c 2 t) (iblk m c 3 t) (iblk m c 4 t) (iblk m c 5 t) (iblk m c 6 t) (iblk m c 7 t) (iblk m c 8 t) (iblk m c 9
        t) (iblk m c 10 t) (iblk m c 11 t) (iblk m c 12 t) (outsAt0 m c (t.val - 1) (Nat.lt_of_le_of_lt (Nat.sub_le _ _) t.isLt)).2.2.2.1 (outsAt0 m c (t.val
        - 1) (Nat.lt_of_le_of_lt (Nat.sub_le _ _) t.isLt)).2.2.2.2.1 (outsAt0 m c (t.val - 1) (Nat.lt_of_le_of_lt (Nat.sub_le _ _) t.isLt)).2.2.2.2.2
    (fun R k => blk_cur m c t R k) (blk_2 m c t) (blk_3 m c t) (blk_4 m c t) (fun h => h0 ((hcond0_0 t).mp h)) ((point t).trans (by show t.val = min t.val 63; omega)) (tileBefore t)
    (by show min t.val 63 = t.val - 1 + 1; omega) hs

/-- What the carried buffers hold after a tile's step. -/
theorem held : ∀ (n : ℕ) (h : n < cfg0.N), n < 64 → After (argsOf m c) (tileOf ⟨n, h⟩) (outsAt0 m c n h).2.2.2.1
    (outsAt0 m c n h).2.2.2.2.1 (outsAt0 m c n h).2.2.2.2.2 := by
  intro n
  induction n with
  | zero => exact fun h _ => held_first m c ⟨0, h⟩ (Nat.zero_mod _)
  | succ n ih =>
    intro h h64
    have hb : tileOf ⟨n, Nat.lt_of_succ_lt h⟩ = tileBefore ⟨n + 1, h⟩ := Fin.ext (by show min n 63 = n + 1 - 1; omega)
    have hs := ih (Nat.lt_of_succ_lt h) (by omega)
    rw [hb] at hs
    exact held_next m c ⟨n + 1, h⟩ (by dsimp only; omega) h64 hs

/-- The rows a later step puts out. -/
theorem put (t : Fin cfg0.N) (h0 : ¬t.val % 65 = 0) (R : Fin 256) (j : Fin 2048) :
    (outsAt0 m c t.val t.isLt).1 (ix2 R j) = (argsOf m c).out (seqOf (tileBefore t)) (rowOf (tileBefore t) R) j := by
  have ht : t.val < 65 := Nat.lt_of_lt_of_eq t.isLt N_0
  have hs := held m c (t.val - 1) (Nat.lt_of_le_of_lt (Nat.sub_le _ _) t.isLt) (by omega)
  have hb : tileOf ⟨t.val - 1, Nat.lt_of_le_of_lt (Nat.sub_le _ _) t.isLt⟩ = tileBefore t := Fin.ext (by show min (t.val - 1) 63 = t.val - 1; omega)
  rw [hb] at hs
  rw [(parts (outsAt0_B m c t h0)).1]
  exact stepOut (argsOf m c) (tileBefore t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t)
        (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t)
        (hs0_13 t) (ms0_14 t) (hs0_14 t) (ms0_15 t) (hs0_15 t) scM0_0 (Memref.isWhole_whole _) scM0_1 (Memref.isWhole_whole _) scM0_2 (Memref.isWhole_whole _)
        scM0_3 (Memref.isWhole_whole _) scM0_4 (Memref.isWhole_whole _) scM0_5 (Memref.isWhole_whole _) scM0_6 (Memref.isWhole_whole _) (iblk m c 0 t) (iblk m
        c 1 t) (iblk m c 2 t) (iblk m c 3 t) (iblk m c 4 t) (iblk m c 5 t) (iblk m c 6 t) (iblk m c 7 t) (iblk m c 8 t) (iblk m c 9 t) (iblk m c 10 t) (iblk m
        c 11 t) (iblk m c 12 t) (outsAt0 m c (t.val - 1) (Nat.lt_of_le_of_lt (Nat.sub_le _ _) t.isLt)).2.2.2.1 (outsAt0 m c (t.val - 1) (Nat.lt_of_le_of_lt
        (Nat.sub_le _ _) t.isLt)).2.2.2.2.1 (outsAt0 m c (t.val - 1) (Nat.lt_of_le_of_lt (Nat.sub_le _ _) t.isLt)).2.2.2.2.2
    (fun h => h0 ((hcond0_0 t).mp h)) hs (blk_prev m c t) (blk_5 m c t) (blk_6 m c t) (blk_7 m c t)
    (blk_8 m c t) (blk_9 m c t) (blk_10 m c t) R j

/-- The blocks of the MLP's weights. -/
theorem put_up (t : Fin cfg0.N) (r : Fin 32) (j : Fin 8192) :
    (outsAt0 m c t.val t.isLt).2.1 (ix2 r j) = m ((c : Thread nD τ).loc main_arg10) (ix3 0 ⟨32 * (tileOf t).val + r.val, by omega⟩ j) := by
  refine Eq.trans ?_ (blk_11 m c t r j)
  by_cases h0 : t.val % 65 = 0
  · rw [(parts (outsAt0_A m c t h0)).2.1]
    exact castA_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t)
        (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t)
        (hs0_13 t) (ms0_14 t) (hs0_14 t) (ms0_15 t) (hs0_15 t) scM0_0 (Memref.isWhole_whole _) scM0_1 (Memref.isWhole_whole _) scM0_2 (Memref.isWhole_whole _)
        scM0_3 (Memref.isWhole_whole _) scM0_4 (Memref.isWhole_whole _) scM0_5 (Memref.isWhole_whole _) scM0_6 (Memref.isWhole_whole _) (iblk m c 0 t) (iblk m
        c 1 t) (iblk m c 2 t) (iblk m c 3 t) (iblk m c 4 t) (iblk m c 5 t) (iblk m c 6 t) (iblk m c 7 t) (iblk m c 8 t) (iblk m c 9 t) (iblk m c 10 t) (iblk m
        c 11 t) (iblk m c 12 t)
      ((hcond0_0 t).mpr h0) r j
  · rw [(parts (outsAt0_B m c t h0)).2.1]
    exact castB_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t)
        (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t)
        (hs0_13 t) (ms0_14 t) (hs0_14 t) (ms0_15 t) (hs0_15 t) scM0_0 (Memref.isWhole_whole _) scM0_1 (Memref.isWhole_whole _) scM0_2 (Memref.isWhole_whole _)
        scM0_3 (Memref.isWhole_whole _) scM0_4 (Memref.isWhole_whole _) scM0_5 (Memref.isWhole_whole _) scM0_6 (Memref.isWhole_whole _) (iblk m c 0 t) (iblk m
        c 1 t) (iblk m c 2 t) (iblk m c 3 t) (iblk m c 4 t) (iblk m c 5 t) (iblk m c 6 t) (iblk m c 7 t) (iblk m c 8 t) (iblk m c 9 t) (iblk m c 10 t) (iblk m
        c 11 t) (iblk m c 12 t) (outsAt0 m c (t.val - 1) (Nat.lt_of_le_of_lt (Nat.sub_le _ _) t.isLt)).2.2.2.1 (outsAt0 m c (t.val - 1) (Nat.lt_of_le_of_lt
        (Nat.sub_le _ _) t.isLt)).2.2.2.2.1 (outsAt0 m c (t.val - 1) (Nat.lt_of_le_of_lt (Nat.sub_le _ _) t.isLt)).2.2.2.2.2
      (fun h => h0 ((hcond0_0 t).mp h)) r j

theorem put_down (t : Fin cfg0.N) (r : Fin 128) (j : Fin 2048) :
    (outsAt0 m c t.val t.isLt).2.2.1 (ix2 r j) = m ((c : Thread nD τ).loc main_arg11) (ix3 0 ⟨128 * (tileOf t).val + r.val, by omega⟩ j) := by
  refine Eq.trans ?_ (blk_12 m c t r j)
  by_cases h0 : t.val % 65 = 0
  · rw [(parts (outsAt0_A m c t h0)).2.2.1]
    exact castA_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t)
        (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t)
        (hs0_13 t) (ms0_14 t) (hs0_14 t) (ms0_15 t) (hs0_15 t) scM0_0 (Memref.isWhole_whole _) scM0_1 (Memref.isWhole_whole _) scM0_2 (Memref.isWhole_whole _)
        scM0_3 (Memref.isWhole_whole _) scM0_4 (Memref.isWhole_whole _) scM0_5 (Memref.isWhole_whole _) scM0_6 (Memref.isWhole_whole _) (iblk m c 0 t) (iblk m
        c 1 t) (iblk m c 2 t) (iblk m c 3 t) (iblk m c 4 t) (iblk m c 5 t) (iblk m c 6 t) (iblk m c 7 t) (iblk m c 8 t) (iblk m c 9 t) (iblk m c 10 t) (iblk m
        c 11 t) (iblk m c 12 t)
      ((hcond0_0 t).mpr h0) r j
  · rw [(parts (outsAt0_B m c t h0)).2.2.1]
    exact castB_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t)
        (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t)
        (hs0_13 t) (ms0_14 t) (hs0_14 t) (ms0_15 t) (hs0_15 t) scM0_0 (Memref.isWhole_whole _) scM0_1 (Memref.isWhole_whole _) scM0_2 (Memref.isWhole_whole _)
        scM0_3 (Memref.isWhole_whole _) scM0_4 (Memref.isWhole_whole _) scM0_5 (Memref.isWhole_whole _) scM0_6 (Memref.isWhole_whole _) (iblk m c 0 t) (iblk m
        c 1 t) (iblk m c 2 t) (iblk m c 3 t) (iblk m c 4 t) (iblk m c 5 t) (iblk m c 6 t) (iblk m c 7 t) (iblk m c 8 t) (iblk m c 9 t) (iblk m c 10 t) (iblk m
        c 11 t) (iblk m c 12 t) (outsAt0 m c (t.val - 1) (Nat.lt_of_le_of_lt (Nat.sub_le _ _) t.isLt)).2.2.2.1 (outsAt0 m c (t.val - 1) (Nat.lt_of_le_of_lt
        (Nat.sub_le _ _) t.isLt)).2.2.2.2.1 (outsAt0 m c (t.val - 1) (Nat.lt_of_le_of_lt (Nat.sub_le _ _) t.isLt)).2.2.2.2.2
      (fun h => h0 ((hcond0_0 t).mp h)) r j

/-- The output arrays of the call. -/
def result : Buf (Elt Ideal) ((c : Thread nD τ).loc main_v19_0) :=
  fun i => (argsOf m c).out ⟨(i 0).val / 2048, by have h : (i 0).val < 16384 := (i 0).isLt; omega⟩ ⟨(i 0).val % 2048, Nat.mod_lt _ (by decide)⟩ (i 1)
def resultUp : Buf (Elt Ideal) ((c : Thread nD τ).loc main_v19_1) := fun i => m ((c : Thread nD τ).loc main_arg10) (ix3 0 (i 0) (i 1))
def resultDown : Buf (Elt Ideal) ((c : Thread nD τ).loc main_v19_2) := fun i => m ((c : Thread nD τ).loc main_arg11) (ix3 0 (i 0) (i 1))

theorem covers : (cfg0.win 13).Covers := by decide +kernel
theorem covers_up : (cfg0.win 14).Covers := by decide +kernel
theorem covers_down : (cfg0.win 15).Covers := by decide +kernel

/-- The first block leaves its buffer only after the second step. -/
theorem flush_pos : ∀ t : Fin cfg0.N, (cfg0.win 13).flush t = true → ¬t.val % 65 = 0 := by decide +kernel

theorem final : (dats m 0 c).arrAt 13 cfg0.N = result m c := by
  refine (dats m 0 c).arrAt_eq_of_covers 13 _ covers fun t hf y => ?_
  blk_simp
  rw [after0_13]
  obtain ⟨r, j, rfl⟩ := eq_ix2 (a := 256) (b := 2048) y
  refine (put m c t (flush_pos t hf) r j).trans ?_
  unfold result seqOf rowOf tileBefore
  dsimp only
  congr 1
  · refine Fin.ext ?_
    blk_simp [idx t]
    dsimp only
    omega
  · refine Fin.ext ?_
    blk_simp [idx t]
    dsimp only
    omega
  · refine Fin.ext ?_
    blk_simp [idx t]

theorem final_up : (dats m 0 c).arrAt 14 cfg0.N = resultUp m c := by
  refine (dats m 0 c).arrAt_eq_of_covers 14 _ covers_up fun t hf y => ?_
  blk_simp
  rw [after0_14]
  obtain ⟨r, j, rfl⟩ := eq_ix2 (a := 32) (b := 8192) y
  refine (put_up m c t r j).trans ?_
  unfold resultUp tileOf
  dsimp only
  congr 2
  · refine Fin.ext ?_
    blk_simp [idx t]
    dsimp only
    omega
  · refine Fin.ext ?_
    blk_simp [idx t]

theorem final_down : (dats m 0 c).arrAt 15 cfg0.N = resultDown m c := by
  refine (dats m 0 c).arrAt_eq_of_covers 15 _ covers_down fun t hf y => ?_
  blk_simp
  rw [after0_15]
  obtain ⟨r, j, rfl⟩ := eq_ix2 (a := 128) (b := 2048) y
  refine (put_down m c t r j).trans ?_
  unfold resultDown tileOf
  dsimp only
  congr 2
  · refine Fin.ext ?_
    blk_simp [idx t]
    dsimp only
    omega
  · refine Fin.ext ?_
    blk_simp [idx t]

end Cert.Mix
-- ==== Proof.MixRef.lean ====
/-
  The reference's mixer over the reals: its named stages, read at an index.
-/
module

public import proofs.«01_k».proof.Proof.MixSpec
public import proofs.«01_k».proof.Proof.Gen.ReferenceIdeal.Run
public import Idealize.ShloMosaic.Lib.Pipeline.ValueKit
public import Idealize.ShloMosaic.Lib.Pointwise

@[expose] public section

set_option maxRecDepth 65536

noncomputable section

namespace Cert.Mix.Ref

open Idealize.ShloMosaic Idealize.ShloMosaic.TcCoe Idealize.ShloMosaic.Tactic
open Cert.ReferenceIdeal Cert.ReferenceIdeal.Gen Cert.ReferenceIdeal.Value

variable (V0 : Valuation τ sig (Elt Ideal)) (b : Fin 8) (s : Fin 2048)

/-- The reference's arguments. -/
def args : Args where
  x := V0 (Proc.devRef .tc main_arg0)
  preGain := V0 (Proc.devRef .tc main_arg1)
  wIn := V0 (Proc.devRef .tc main_arg2)
  convA := V0 (Proc.devRef .tc main_arg3)
  convB := V0 (Proc.devRef .tc main_arg4)
  biasB := V0 (Proc.devRef .tc main_arg5)
  lnGain := V0 (Proc.devRef .tc main_arg6)
  lnBias := V0 (Proc.devRef .tc main_arg7)
  wOut := V0 (Proc.devRef .tc main_arg8)
  postGain := V0 (Proc.devRef .tc main_arg9)

theorem proj (j : Fin 5120) : res_main_v15 V0 (ix3 b s j) = (args V0).proj b s j := by
  unfold res_main_v15 Args.proj args
  dsimp only
  generalize V0 (Proc.devRef .tc main_arg0) = x0
  generalize V0 (Proc.devRef .tc main_arg1) = x1
  generalize V0 (Proc.devRef .tc main_arg2) = x2
  pointwise [rowScale]

theorem logistic_eq (x : EReal) : Ideal.div 1 (1 + Ideal.exp (-x)) = Ideal.logistic x := rfl

theorem cv (S : Fin 2050) (j : Fin 1024) : res_main_v24 V0 (ix3 b S j) = (args V0).cv b S.val j := by
  unfold Args.cv
  simp only [← proj]
  unfold res_main_v24
  generalize res_main_v15 V0 = y
  pointwise
  by_cases h : S.val < 2
  · rw [dif_pos h, dif_neg (by omega)]
  · rw [dif_neg h, dif_pos (by omega)]

theorem gl (S : Fin 2078) (j : Fin 1024) : res_main_v55 V0 (ix3 b S j) = (args V0).gl b S.val j := by
  unfold Args.gl
  simp only [← proj]
  unfold res_main_v55
  generalize res_main_v15 V0 = y
  pointwise
  by_cases h : S.val < 30
  · rw [dif_pos h, dif_neg (by omega)]
  · rw [dif_neg h, dif_pos (by omega)]
    rfl

/-- One weight's share of the long convolution. -/
def tap (k : ℕ) (hk : k < 31) (j : Fin 1024) : EReal := (args V0).convB (ix3 0 ⟨k, hk⟩ j) * (args V0).gl b (s.val + k) j

theorem weight (k : Fin 31) (j : Fin 1024) : res_main_v53 V0 (ix2 k j) = (args V0).convB (ix3 0 k j) := by
  unfold res_main_v53 args
  dsimp only
  generalize V0 (Proc.devRef .tc main_arg4) = x4
  pointwise

theorem convB (j : Fin 1024) : res_main_v275 V0 (ix3 b s j) = (args V0).gB b s j := by
  unfold res_main_v275 res_main_v208 res_main_v131
  generalize hw : res_main_v53 V0 = w
  generalize hy : res_main_v55 V0 = y
  generalize hz : V0 (Proc.devRef .tc main_arg5) = x5
  pointwise
  subst hw hy hz
  simp only [weight, gl]
  unfold Args.gB
  have hf : ∀ k : Fin 31, (args V0).convB (ix3 0 k j) * (args V0).gl b (s.val + k.val) j
      = (fun k : Fin 31 => (args V0).convB (ix3 0 k j) * (args V0).gl b (k.val + s.val) j) k := fun k => by
    rw [Nat.add_comm]
  have h0 : (args V0).gl b s.val j = (args V0).gl b (0 + s.val) j := by rw [Nat.zero_add]
  simp only [hf]
  rw [h0]
  change (_ + (args V0).biasB (ix2 0 j) : EReal) = (args V0).biasB (ix2 0 j) + _
  rw [add_comm]
  refine congrArg _ ?_
  rw [sum31]
  simp only [add_zero, ← add_assoc]
  rfl

theorem norm (j : Fin 1024) : res_main_v301 V0 (ix3 b s j) = (args V0).nB b s j := by
  unfold Args.nB
  have hg : (args V0).gB b s = fun k => res_main_v275 V0 (ix3 b s k) := funext fun k => (convB V0 b s k).symm
  rw [hg]
  unfold res_main_v301 res_main_v283 res_main_v281 args
  dsimp only
  generalize res_main_v275 V0 = y
  generalize V0 (Proc.devRef .tc main_arg6) = x6
  generalize V0 (Proc.devRef .tc main_arg7) = x7
  pointwise [lnorm, rowScale, centred]

theorem weightA (k : Fin 3) (j : Fin 1024) : res_main_v22 V0 (ix2 k j) = (args V0).convA (ix3 0 k j) := by
  unfold res_main_v22 args
  dsimp only
  generalize V0 (Proc.devRef .tc main_arg3) = x3
  pointwise

theorem o (j : Fin 2048) : res_main_v311 V0 (ix3 b s j) = (args V0).o b s j := by
  unfold res_main_v311
  generalize hp : res_main_v15 V0 = p
  generalize hw : res_main_v22 V0 = w
  generalize hy : res_main_v24 V0 = y
  generalize hn : res_main_v301 V0 = n
  generalize hz : V0 (Proc.devRef .tc main_arg8) = x8
  pointwise
  subst hp hw hy hn hz
  simp only [weightA, cv, norm, proj]
  unfold Args.o Args.yA
  simp only [logistic_eq, Fin.sum_univ_three, Nat.add_comm s.val]
  have h0 (x : Fin 1024) : (args V0).cv b ((0 : Fin 3).val + s.val) x = (args V0).cv b s.val x := by
    congr 1; exact Nat.zero_add _
  simp only [h0]
  rfl

/-- The rows put out. -/
theorem out (R : Fin 16384) (j : Fin 2048) (x : EReal)
    (hx : x = (shapeCast S16384x2048 (addf (V0 (Proc.devRef .tc main_arg0)) (mulf (mulf (res_main_v311 V0) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (res_main_v311 V0) (res_main_v311 V0)) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast S2048 (V0 (Proc.devRef .tc main_arg9)) shapeCasts_S1x2048_S2048))))) shapeCasts_S8x2048x2048_S16384x2048 : Vec Ideal S16384x2048 .f32) (ix2 R j)) :
    x = (args V0).out ⟨R.val / 2048, by omega⟩ ⟨R.val % 2048, by omega⟩ j := by
  subst hx
  unfold Args.out
  simp only [← o]
  unfold args
  dsimp only
  generalize res_main_v311 V0 = y
  generalize V0 (Proc.devRef .tc main_arg0) = x0
  generalize V0 (Proc.devRef .tc main_arg9) = x9
  pointwise [rowScale]

end Cert.Mix.Ref
-- ==== Proof.MixRun.lean ====
/-
  The mixer: the kernel's three results are the reference's.
-/
module

public import proofs.«01_k».proof.Proof.MixValue
public import proofs.«01_k».proof.Proof.MixRef

@[expose] public section

set_option maxRecDepth 16384

noncomputable section

namespace Cert.Mix

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ) (c : Dev nD)

/-- The kernel's run: the output arrays hold the results, the arguments are unchanged. -/
theorem run_value (ρ : Dev nD → PrngReg) : θ_run defs (onTc (τ := τ) (main (F := Ideal))) ⟨m, fun _ => 0, ρ⟩ fun r => ∀ c : Dev nD,
      r.2.mem ((c : Thread nD τ).loc main_v19_0) = result m c
      ∧ r.2.mem ((c : Thread nD τ).loc main_v19_1) = resultUp m c
      ∧ r.2.mem ((c : Thread nD τ).loc main_v19_2) = resultDown m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨((h.2 c).1 13).trans (final m c), ((h.2 c).1 14).trans (final_up m c),
      ((h.2 c).1 15).trans (final_down m c), h.1 c⟩)
    (θ_run_and (unchanged m ρ) (run_main m ρ))

/-- The reference computes the kernel's results on the same arguments. -/
theorem algebraic : Cert.algebraic_KernelIdeal_ReferenceIdeal := by
  intro m ρ m' ρ' _ hagree
  refine ⟨fun c => result m c, fun c => resultUp m c, fun c => resultDown m c, run_value m ρ, ?_⟩
  refine (θ_run Cert.ReferenceIdeal.defs _ _).mono (fun r h c => ?_) (Cert.ReferenceIdeal.Value.run m' ρ')
  obtain ⟨h0, h1, h2, h3, h4, h5, h6, h7, h8, h9, h10, h11⟩ := hagree c
  have hargs : Ref.args (StableHlo.launchContents m' c) = argsOf m c :=
    congr (congr (congr (congr (congr (congr (congr (congr (congr (congrArg Args.mk h0) h1) h2) h3) h4) h5) h6) h7) h8) h9
  refine ⟨(h c).1.trans ?_, (h c).2.1.trans ?_, (h c).2.2.1.trans ?_, (h c).2.2.2⟩
  · funext i
    obtain ⟨r, j, rfl⟩ : ∃ (r : Fin 16384) (j : Fin 2048), i = ix2 r j := ⟨i 0, i 1, Idealize.ShloMosaic.eq_ix2 i⟩
    refine (Ref.out (StableHlo.launchContents m' c) r j _ rfl).trans ?_
    rw [hargs]
    rfl
  · funext i
    obtain ⟨r, j, rfl⟩ : ∃ (r : Fin 2048) (j : Fin 8192), i = ix2 r j := ⟨i 0, i 1, Idealize.ShloMosaic.eq_ix2 i⟩
    refine Eq.trans ?_ (congrFun h10 (ix3 0 r j))
    show _ = (m' ((c.tc : Thread Cert.ReferenceIdeal.nD Cert.ReferenceIdeal.τ).loc Cert.ReferenceIdeal.main_arg10) : Vec Ideal _ .f32) (ix3 0 r j)
    pointwise
  · funext i
    obtain ⟨r, j, rfl⟩ : ∃ (r : Fin 8192) (j : Fin 2048), i = ix2 r j := ⟨i 0, i 1, Idealize.ShloMosaic.eq_ix2 i⟩
    refine Eq.trans ?_ (congrFun h11 (ix3 0 r j))
    show _ = (m' ((c.tc : Thread Cert.ReferenceIdeal.nD Cert.ReferenceIdeal.τ).loc Cert.ReferenceIdeal.main_arg11) : Vec Ideal _ .f32) (ix3 0 r j)
    pointwise

end Cert.Mix
-- ==== Proof.MlpRun.lean ====
/-
  The MLP kernel's body, run once at each of its three kinds of grid point, over any float type: the first chunk
  of a row block (the normalised rows are stored and the accumulator started), a middle chunk (the accumulator
  goes on), the last chunk (the accumulator goes on and the output block is stored).
-/
module

public import proofs.«01_k».proof.Proof.Gen.Kernel2Ideal.Skeleton
public import proofs.«01_k».proof.Proof.Gen.Kernel2Ideal.Frame
public import Idealize.ShloMosaic.Lib.Pipeline.ReadBack
public import Idealize.ShloMosaic.Lib.Pipeline.ValueKit

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-! ## The two conditions of the body, as facts of the grid point -/

/-- The first condition: the chunk number is zero. -/
abbrev first (i : grid0.Coords) : Prop :=
  (Scalar.cmpi .ne (Scalar.extui (Scalar.cmpi .eq (BitVec.ofNat 32 (i 1).val) 0#32)) 0#32) = 1#1
/-- The second: the chunk number is seven. -/
abbrev last (i : grid0.Coords) : Prop := k0_cond2 i = 1#1

theorem chunk_val (t : Fin cfg0.N) : (grid0.coords t 1).val = t.val % 8 := by
  have e : (grid0.coords t 1).val = t.val / 1 % 8 := Pipeline.Grid.coords_val t 1 (by decide) rfl
  rw [e, Nat.div_one]

theorem first_iff (t : Fin cfg0.N) : first (grid0.coords t) ↔ t.val % 8 = 0 := by
  have ht : t.val < 256 := Nat.lt_of_lt_of_eq t.isLt N_0
  simp only [first, chunk_val]
  word_cmp

theorem last_iff (t : Fin cfg0.N) : last (grid0.coords t) ↔ t.val % 8 = 7 := by
  have ht : t.val < 256 := Nat.lt_of_lt_of_eq t.isLt N_0
  simp only [last, k0_cond2, chunk_val]
  word_cmp

/-! ## The body's results, as functions of the rows -/

/-- Rows 32·k … 32·k + 31 of a block of 512 rows. -/
def rowsOf {α : Type} (X : S512x2048.Idx → α) (k : Fin 16) : S32x2048.Idx → α :=
  fun y => X (ix2 ⟨32 * k.val + (y 0).val, by have := k.isLt; have : (y 0).val < 32 := (y 0).isLt; omega⟩ (y 1))

/-- A block of 512 rows put together from sixteen blocks of 32. -/
def byRows {α : Type} (P : Fin 16 → S32x2048.Idx → α) : S512x2048.Idx → α :=
  fun y => P ⟨(y 0).val / 32, by have : (y 0).val < 512 := (y 0).isLt; omega⟩
    (ix2 ⟨(y 0).val % 32, Nat.mod_lt _ (by decide)⟩ (y 1))

theorem byRows_emb {α : Type} (P : Fin 16 → S32x2048.Idx → α) (k : Fin 16) (o : ℕ) (ho : o = 32 * k.val)
    (inb : ∀ a, (![o, 0] : Fin 2 → ℕ) a + S32x2048.size a ≤ S512x2048.size a) (x : S32x2048.Idx) :
    byRows P ((Rect.unit (s := S512x2048) ![o, 0] S32x2048.size inb).emb x) = P k x := by
  subst ho
  have h0 : (x 0).val < 32 := (x 0).isLt
  have e0 : (((Rect.unit (s := S512x2048) ![32 * k.val, 0] S32x2048.size inb).emb x) 0).val = 32 * k.val + (x 0).val := by
    show 32 * k.val + 1 * (x 0).val = _; omega
  have e1 : (((Rect.unit (s := S512x2048) ![32 * k.val, 0] S32x2048.size inb).emb x) 1) = x 1 := by
    apply Fin.ext; show 0 + 1 * (x 1).val = _; omega
  unfold byRows
  congr 1
  · apply Fin.ext; show _ / 32 = _; rw [e0]; omega
  · funext a
    match a with
    | ⟨0, _⟩ => apply Fin.ext; show _ % 32 = (x 0).val; rw [e0]; omega
    | ⟨1, _⟩ => exact e1

theorem ld_rows {α : Type} (X : S512x2048.Idx → α) (k : Fin 16) (o : ℕ) (ho : o = 32 * k.val)
    (inb : ∀ a, (![o, 0] : Fin 2 → ℕ) a + S32x2048.size a ≤ S512x2048.size a) :
    (fun x => X ((Rect.unit (s := S512x2048) ![o, 0] S32x2048.size inb).toLoadRect.idx x)) = rowsOf X k := by
  subst ho
  funext x
  unfold rowsOf
  congr 1
  funext a
  match a with
  | ⟨0, _⟩ => apply Fin.ext; show 32 * k.val + 1 * (x 0).val = _; rw [Nat.one_mul]; rfl
  | ⟨1, _⟩ => apply Fin.ext; show 0 + 1 * (x 1).val = _; rw [Nat.one_mul, Nat.zero_add]; rfl

/-- The normalised rows of an input block. -/
def normRows (h : Vec F S512x2048 .f32) (g : Vec F S1x2048 .f32) : Vec F S512x2048 .bf16 :=
  byRows fun k => k0_pay3 (rowsOf h k) g

/-- The output rows: the input's, with the normalised accumulator's added. -/
def outRows (z h : Vec F S512x2048 .f32) (g : Vec F S1x2048 .f32) : Vec F S512x2048 .f32 :=
  byRows fun k => k0_pay19 (rowsOf z k) (rowsOf h k) g

/-- Sixteen row blocks written one after another, each a block of `G`, leave `G`. -/
theorem read_rows {sp : Space} {e : EltTy} (v : View sig .tc sp S512x2048 e) (f : v.ty.Contents (Elt F))
    (G : S512x2048.Idx → Elt F e) (L : List (View.Piece (Elt F) S512x2048 e)) (hL : View.PiecesOf G L)
    (hc : ∀ y, ∃ p ∈ L, y ∈ p.1.set) : v.read (Elt F) (v.writes (Elt F) f L) = G :=
  (View.read_writes_eq_canon v f L hc).trans (funext fun y => View.canon_apply_of_pieces G L hL.mem y (hc y))

/-- A load of 32 rows of a buffer holding `X`. -/
theorem load_rows {sp : Space} {e : EltTy} (M : Memref sig .tc sp S512x2048 e) (hM : M.IsWhole) (X : S512x2048.Idx → Elt F e)
    (k : Fin 16) (o : ℕ) (ho : o = 32 * k.val) (inb : ∀ a, (![o, 0] : Fin 2 → ℕ) a + S32x2048.size a ≤ S512x2048.size a) :
    M.view.readAt (Elt F) (Rect.unit (s := S512x2048) ![o, 0] S32x2048.size inb).toLoadRect (hM.unread X) = rowsOf X k := by
  rw [View.readAt_eq_ld, hM.read_unread]; exact ld_rows X k o ho inb

/-- A load of the whole of a buffer holding `X`. -/
theorem load_all {sp : Space} {S : Shape} {e : EltTy} (M : Memref sig .tc sp S e) (hM : M.IsWhole) (X : S.Idx → Elt F e)
    {off : Fin S.rank → ℕ} (inb : ∀ a, off a + S.size a ≤ S.size a) (h : ∀ a, off a = 0) :
    M.view.readAt (Elt F) (Rect.unit (s := S) off S.size inb).toLoadRect (hM.unread X) = X := by
  rw [View.readAt_eq_ld, hM.read_unread]
  funext x
  show X _ = X x
  congr 1
  funext a; apply Fin.ext
  show off a + 1 * (x a).val = _
  rw [h a]; omega

theorem two_zero : ∀ a : Fin 2, (![0, 0] : Fin 2 → ℕ) a = 0 := by decide

/-- One store of normalised rows is a block of `normRows`. -/
theorem norm_piece (arg2 : Memref sig .tc .vmem S512x2048 .f32) (harg2 : arg2.IsWhole) (arg3 : Memref sig .tc .vmem S1x2048 .f32)
    (harg3 : arg3.IsWhole) (x2 : Vec F S512x2048 .f32) (x3 : Vec F S1x2048 .f32) (k : Fin 16) (o : ℕ) (ho : o = 32 * k.val)
    (inb : ∀ a, (![o, 0] : Fin 2 → ℕ) a + S32x2048.size a ≤ S512x2048.size a)
    (inb' : ∀ a, (![0, 0] : Fin 2 → ℕ) a + S1x2048.size a ≤ S1x2048.size a) (x : S32x2048.Idx) :
    k0_pay3 (arg2.view.readAt (Elt F) (Rect.unit (s := S512x2048) ![o, 0] S32x2048.size inb).toLoadRect (harg2.unread x2))
        (arg3.view.readAt (Elt F) (Rect.unit (s := S1x2048) ![0, 0] S1x2048.size inb').toLoadRect (harg3.unread x3)) x
      = normRows x2 x3 ((Rect.unit (s := S512x2048) ![o, 0] S32x2048.size inb).emb x) := by
  rw [load_rows arg2 harg2 x2 k o ho inb, load_all arg3 harg3 x3 inb' two_zero]
  exact (byRows_emb (fun k => k0_pay3 (rowsOf x2 k) x3) k o ho inb x).symm

/-- The accumulator's store: the whole of it, at what the step computes. -/
theorem read_acc {sp : Space} (v : View sig .tc sp S512x2048 .f32) (f : v.ty.Contents (Elt F)) (w : S512x2048.Idx → Elt F .f32)
    (inb : ∀ a, (![0, 0] : Fin 2 → ℕ) a + S512x2048.size a ≤ S512x2048.size a) :
    v.read (Elt F) (v.writes (Elt F) f [⟨Rect.unit (s := S512x2048) ![0, 0] S512x2048.size inb, w⟩]) = w :=
  (View.read_writes_eq_canon v f _ fun y => ⟨_, List.mem_singleton_self _, by
    rw [LoadRect.mem_set]; intro a; exact ⟨(y a).val, (y a).isLt, by show (y a).val = (![0, 0] : Fin 2 → ℕ) a + 1 * _; rw [two_zero a]; omega⟩⟩).trans
    (View.canon_cons_unit_lit inb w [] two_zero)

/-- The accumulator's rows, read back after its store. -/
theorem back_rows (arg9 : Memref sig .tc .vmem S512x2048 .f32) (w : S512x2048.Idx → Elt F .f32)
    (L : List (View.Piece (Elt F) S512x2048 .f32))
    (inb : ∀ a, (![0, 0] : Fin 2 → ℕ) a + S512x2048.size a ≤ S512x2048.size a)
    (hL : L = [⟨Rect.unit (s := S512x2048) ![0, 0] S512x2048.size inb, w⟩]) (k : Fin 16) (o : ℕ) (ho : o = 32 * k.val)
    (inb' : ∀ a, (![o, 0] : Fin 2 → ℕ) a + S32x2048.size a ≤ S512x2048.size a) :
    arg9.view.readCov L (Rect.unit (s := S512x2048) ![o, 0] S32x2048.size inb').toLoadRect = rowsOf w k := by
  subst hL
  rw [View.readCov_eq_canon', View.canon_cons_unit_lit inb w [] two_zero]
  exact ld_rows w k o ho inb'

/-- One store of the output's rows is a block of `outRows`. -/
theorem out_piece (arg2 : Memref sig .tc .vmem S512x2048 .f32) (harg2 : arg2.IsWhole) (arg6 : Memref sig .tc .vmem S1x2048 .f32)
    (harg6 : arg6.IsWhole) (x2 : Vec F S512x2048 .f32) (x6 : Vec F S1x2048 .f32) (w : Vec F S512x2048 .f32) (k : Fin 16) (o : ℕ)
    (ho : o = 32 * k.val) (inb : ∀ a, (![o, 0] : Fin 2 → ℕ) a + S32x2048.size a ≤ S512x2048.size a)
    (inb' : ∀ a, (![0, 0] : Fin 2 → ℕ) a + S1x2048.size a ≤ S1x2048.size a) (z : Vec F S32x2048 .f32) (hz : z = rowsOf w k)
    (x : S32x2048.Idx) :
    k0_pay19 z (arg2.view.readAt (Elt F) (Rect.unit (s := S512x2048) ![o, 0] S32x2048.size inb).toLoadRect (harg2.unread x2))
        (arg6.view.readAt (Elt F) (Rect.unit (s := S1x2048) ![0, 0] S1x2048.size inb').toLoadRect (harg6.unread x6)) x
      = outRows w x2 x6 ((Rect.unit (s := S512x2048) ![o, 0] S32x2048.size inb).emb x) := by
  rw [load_rows arg2 harg2 x2 k o ho inb, load_all arg6 harg6 x6 inb' two_zero, hz]
  exact (byRows_emb (fun k => k0_pay19 (rowsOf w k) (rowsOf x2 k) x6) k o ho inb x).symm

set_option maxHeartbeats 4000000 in
/-- The first chunk of a row block. -/
theorem run_first (c : Dev nD) (i : grid0.Coords)
    (arg2 : Memref sig .tc .vmem S512x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S1024x2048 .bf16) (harg5 : arg5.IsWhole)
    (arg6 : Memref sig .tc .vmem S1x2048 .f32) (harg6 : arg6.IsWhole) (arg7 : Memref sig .tc .vmem S512x2048 .f32) (harg7 : arg7.IsWhole)
    (arg8 : Memref sig .tc .vmem S512x2048 .bf16) (harg8 : arg8.IsWhole) (arg9 : Memref sig .tc .vmem S512x2048 .f32) (harg9 : arg9.IsWhole)
    (h1 : first i) (h2 : ¬last i)
    (x2 : Vec F S512x2048 .f32) (x3 : Vec F S1x2048 .f32) (x4 : Vec F S2048x1024 .bf16) (x5 : Vec F S1024x2048 .bf16)
    (x9 : Vec F S512x2048 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg8 fullShare d) ∗ owns (c : Thread nD τ) arg9 fullShare x9
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare (normRows x2 x3) ∗ owns (c : Thread nD τ) arg9 fullShare (k0_pay1 i (normRows x2 x3) x4 x5 x9)) -∗ K ⟨⟩))
      ⊢ wp frame (wpE (defs₀ (F := F)) Variants.none c none) E
          (cc0_mlp i arg2 harg2 arg3 harg3 arg4 harg4 arg5 harg5 arg6 harg6 arg7 harg7 arg8 harg8 arg9 harg9) K := by
  simp only [cc0_mlp_eq_skeleton]; unfold cc0_mlp_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  unfold owns
  iintro ⟨⟨%f2, %hf2, H2⟩, ⟨%f3, %hf3, H3⟩, ⟨%f4, %hf4, H4⟩, ⟨%f5, %hf5, H5⟩, ⟨%d8, %f8, -, H8⟩, ⟨%f9, %hf9, H9⟩, Hk⟩
  obtain rfl := harg2.eq_unread hf2; obtain rfl := harg3.eq_unread hf3; obtain rfl := harg4.eq_unread hf4
  obtain rfl := harg5.eq_unread hf5; obtain rfl := harg9.eq_unread hf9
  sl_exec (disch := first | sl_exact h1 | sl_exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  have hP : View.PiecesOf (normRows x2 x3) (run_first.sl.H8_16 c arg2 harg2 arg3 harg3 x2 x3) := by
    have hn := norm_piece arg2 harg2 arg3 harg3 x2 x3
    exact ⟨hn 15 480 rfl _ _, hn 14 448 rfl _ _, hn 13 416 rfl _ _, hn 12 384 rfl _ _, hn 11 352 rfl _ _, hn 10 320 rfl _ _,
      hn 9 288 rfl _ _, hn 8 256 rfl _ _, hn 7 224 rfl _ _, hn 6 192 rfl _ _, hn 5 160 rfl _ _, hn 4 128 rfl _ _,
      hn 3 96 rfl _ _, hn 2 64 rfl _ _, hn 1 32 rfl _ _, hn 0 0 rfl _ _, trivial⟩
  have hC : ∀ y, ∃ p ∈ run_first.sl.H8_16 c arg2 harg2 arg3 harg3 x2 x3, y ∈ p.1.set :=
    View.cover_of_tiledL _ S32x2048.size (by sl_kernel_rfl)
  have hv : run_first.sl.v3 c arg2 harg2 arg3 harg3 arg8 x2 x3 = normRows x2 x3 := by
    unfold run_first.sl.v3
    rw [View.readCov_eq_canon']
    funext y
    rw [View.canon_apply_of_pieces _ _ hP.mem _ (hC _)]
    congr 1
    funext a; apply Fin.ext
    show (![0, 0] : Fin 2 → ℕ) a + 1 * (y a).val = _
    rw [two_zero a]; omega
  isplitl [H8]
  · iexists _; isplitr
    swap; · iexact H8
    ipureintro; exact read_rows _ _ _ _ hP hC
  iexists _; isplitr
  swap; · iexact H9
  ipureintro
  rw [hv, load_all arg4 harg4 x4 _ two_zero, load_all arg5 harg5 x5 _ two_zero, load_all arg9 harg9 x9 _ two_zero]
  exact read_acc _ _ _ _

set_option maxHeartbeats 4000000 in
/-- A middle chunk. -/
theorem run_mid (c : Dev nD) (i : grid0.Coords)
    (arg2 : Memref sig .tc .vmem S512x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S1024x2048 .bf16) (harg5 : arg5.IsWhole)
    (arg6 : Memref sig .tc .vmem S1x2048 .f32) (harg6 : arg6.IsWhole) (arg7 : Memref sig .tc .vmem S512x2048 .f32) (harg7 : arg7.IsWhole)
    (arg8 : Memref sig .tc .vmem S512x2048 .bf16) (harg8 : arg8.IsWhole) (arg9 : Memref sig .tc .vmem S512x2048 .f32) (harg9 : arg9.IsWhole)
    (h1 : ¬first i) (h2 : ¬last i)
    (x4 : Vec F S2048x1024 .bf16) (x5 : Vec F S1024x2048 .bf16) (x8 : Vec F S512x2048 .bf16) (x9 : Vec F S512x2048 .f32) (E : Set ℕ) (K : PUnit → sProp 𝕄) :
    iprop(owns (c : Thread nD τ) arg4 fullShare x4 ∗ owns (c : Thread nD τ) arg5 fullShare x5 ∗ owns (c : Thread nD τ) arg8 fullShare x8 ∗ owns (c : Thread nD τ) arg9 fullShare x9
        ∗ (iprop(owns (c : Thread nD τ) arg4 fullShare x4 ∗ owns (c : Thread nD τ) arg5 fullShare x5 ∗ owns (c : Thread nD τ) arg8 fullShare x8 ∗ owns (c : Thread nD τ) arg9 fullShare (k0_pay1 i x8 x4 x5 x9)) -∗ K ⟨⟩))
      ⊢ wp frame (wpE (defs₀ (F := F)) Variants.none c none) E
          (cc0_mlp i arg2 harg2 arg3 harg3 arg4 harg4 arg5 harg5 arg6 harg6 arg7 harg7 arg8 harg8 arg9 harg9) K := by
  simp only [cc0_mlp_eq_skeleton]; unfold cc0_mlp_skel
  unfold owns
  iintro ⟨⟨%f4, %hf4, H4⟩, ⟨%f5, %hf5, H5⟩, ⟨%f8, %hf8, H8⟩, ⟨%f9, %hf9, H9⟩, Hk⟩
  obtain rfl := harg4.eq_unread hf4
  obtain rfl := harg5.eq_unread hf5; obtain rfl := harg8.eq_unread hf8; obtain rfl := harg9.eq_unread hf9
  sl_exec (disch := first | sl_exact h1 | sl_exact h2)
  sl_step
  iapply Hk
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  iexists _; isplitr
  swap; · iexact H9
  ipureintro
  rw [load_all arg8 harg8 x8 _ two_zero, load_all arg4 harg4 x4 _ two_zero, load_all arg5 harg5 x5 _ two_zero,
    load_all arg9 harg9 x9 _ two_zero]
  exact read_acc _ _ _ _

set_option maxHeartbeats 4000000 in
/-- The last chunk. -/
theorem run_last (c : Dev nD) (i : grid0.Coords)
    (arg2 : Memref sig .tc .vmem S512x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S1024x2048 .bf16) (harg5 : arg5.IsWhole)
    (arg6 : Memref sig .tc .vmem S1x2048 .f32) (harg6 : arg6.IsWhole) (arg7 : Memref sig .tc .vmem S512x2048 .f32) (harg7 : arg7.IsWhole)
    (arg8 : Memref sig .tc .vmem S512x2048 .bf16) (harg8 : arg8.IsWhole) (arg9 : Memref sig .tc .vmem S512x2048 .f32) (harg9 : arg9.IsWhole)
    (h1 : ¬first i) (h2 : last i)
    (x2 : Vec F S512x2048 .f32) (x4 : Vec F S2048x1024 .bf16) (x5 : Vec F S1024x2048 .bf16) (x6 : Vec F S1x2048 .f32)
    (x8 : Vec F S512x2048 .bf16) (x9 : Vec F S512x2048 .f32) (E : Set ℕ) (K : PUnit → sProp 𝕄) :
    iprop(owns (c : Thread nD τ) arg2 fullShare x2 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare x8 ∗ owns (c : Thread nD τ) arg9 fullShare x9
        ∗ (iprop(owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare (outRows (k0_pay1 i x8 x4 x5 x9) x2 x6) ∗ owns (c : Thread nD τ) arg8 fullShare x8 ∗ owns (c : Thread nD τ) arg9 fullShare (k0_pay1 i x8 x4 x5 x9)) -∗ K ⟨⟩))
      ⊢ wp frame (wpE (defs₀ (F := F)) Variants.none c none) E
          (cc0_mlp i arg2 harg2 arg3 harg3 arg4 harg4 arg5 harg5 arg6 harg6 arg7 harg7 arg8 harg8 arg9 harg9) K := by
  simp only [cc0_mlp_eq_skeleton]; unfold cc0_mlp_skel
  simp only [k0_part9_eq_skeleton, k0_part10_eq_skeleton, k0_part11_eq_skeleton, k0_part12_eq_skeleton, k0_part13_eq_skeleton,
    k0_part14_eq_skeleton, k0_part15_eq_skeleton, k0_part16_eq_skeleton]
  unfold k0_part9_skel k0_part10_skel k0_part11_skel k0_part12_skel k0_part13_skel k0_part14_skel k0_part15_skel k0_part16_skel
  unfold owns
  iintro ⟨⟨%f2, %hf2, H2⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  obtain rfl := harg2.eq_unread hf2; obtain rfl := harg6.eq_unread hf6; obtain rfl := harg4.eq_unread hf4
  obtain rfl := harg5.eq_unread hf5; obtain rfl := harg8.eq_unread hf8; obtain rfl := harg9.eq_unread hf9
  sl_exec (disch := first | sl_exact h1 | sl_exact h2)
  sl_step
  iapply Hk
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  have ha : run_last.sl.H9_1 c i arg4 harg4 arg5 harg5 arg8 harg8 arg9 harg9 x4 x5 x8 x9
      = [⟨Rect.unit (s := S512x2048) ![0, 0] S512x2048.size inb_S512x2048_S512x2048_0_0, k0_pay1 i x8 x4 x5 x9⟩] := by
    unfold run_last.sl.H9_1
    rw [load_all arg8 harg8 x8 _ two_zero, load_all arg4 harg4 x4 _ two_zero, load_all arg5 harg5 x5 _ two_zero,
      load_all arg9 harg9 x9 _ two_zero]
  have hz := back_rows arg9 (k0_pay1 i x8 x4 x5 x9) _ _ ha
  isplitl [H7]
  · iexists _; isplitr
    swap; · iexact H7
    ipureintro
    have hn := out_piece arg2 harg2 arg6 harg6 x2 x6 (k0_pay1 i x8 x4 x5 x9)
    refine read_rows _ _ _ _ ?_ (View.cover_of_tiledL _ S32x2048.size (by sl_kernel_rfl))
    exact ⟨hn 15 480 rfl _ _ _ (hz 15 480 rfl _), hn 14 448 rfl _ _ _ (hz 14 448 rfl _), hn 13 416 rfl _ _ _ (hz 13 416 rfl _), hn 12 384 rfl _ _ _ (hz 12 384 rfl _),
       hn 11 352 rfl _ _ _ (hz 11 352 rfl _), hn 10 320 rfl _ _ _ (hz 10 320 rfl _), hn 9 288 rfl _ _ _ (hz 9 288 rfl _), hn 8 256 rfl _ _ _ (hz 8 256 rfl _),
       hn 7 224 rfl _ _ _ (hz 7 224 rfl _), hn 6 192 rfl _ _ _ (hz 6 192 rfl _), hn 5 160 rfl _ _ _ (hz 5 160 rfl _), hn 4 128 rfl _ _ _ (hz 4 128 rfl _),
       hn 3 96 rfl _ _ _ (hz 3 96 rfl _), hn 2 64 rfl _ _ _ (hz 2 64 rfl _), hn 1 32 rfl _ _ _ (hz 1 32 rfl _), hn 0 0 rfl _ _ _ (hz 0 0 rfl _),
       trivial⟩
  isplitl [H8]
  · iexists _; isplitr; · ipureintro; exact harg8.read_unread _
    iexact H8
  iexists _; isplitr
  swap; · iexact H9
  ipureintro
  rw [ha]
  exact read_acc _ _ _ _

end Cert.Mlp
-- ==== Proof.MlpFrame.lean ====
/-
  The MLP kernel's pipeline, over any float type: what the two scratch buffers hold from point to point (the
  normalised rows of the current row block, and the accumulator), the body's obligation at every point from the
  three runs, the run of @main, and the frame.
-/
module

public import proofs.«01_k».proof.Proof.MlpRun
public import Idealize.ShloMosaic.Lib.Tactic

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first chunk the accumulator's old contents are not used. -/
theorem pay1_first (i : grid0.Coords) (h : (i 1).val = 0) (x8 : Vec F S512x2048 .bf16) (x4 : Vec F S2048x1024 .bf16)
    (x5 : Vec F S1024x2048 .bf16) (a b : Vec F S512x2048 .f32) : k0_pay1 i x8 x4 x5 a = k0_pay1 i x8 x4 x5 b := by
  simp only [k0_pay1, h]
  rfl

/-- What the two scratch buffers hold after the first chunk of a row block. -/
def fresh (c : Dev nD) (t : Fin cfg0.N) : Vec F S512x2048 .bf16 × Vec F S512x2048 .f32 :=
  (normRows (iblk m c 0 t) (iblk m c 1 t),
    k0_pay1 (grid0.coords t) (normRows (iblk m c 0 t) (iblk m c 1 t)) (iblk m c 2 t) (iblk m c 3 t) (iblk m c 0 t))

/-- What they hold after point `n`. -/
def held (c : Dev nD) : (n : ℕ) → n < cfg0.N → Vec F S512x2048 .bf16 × Vec F S512x2048 .f32
  | 0, h => fresh m c ⟨0, h⟩
  | n + 1, h =>
    if (n + 1) % 8 = 0 then fresh m c ⟨n + 1, h⟩
    else ((held c n (Nat.lt_of_succ_lt h)).1, k0_pay1 (grid0.coords ⟨n + 1, h⟩) (held c n (Nat.lt_of_succ_lt h)).1
      (iblk m c 2 ⟨n + 1, h⟩) (iblk m c 3 ⟨n + 1, h⟩) (held c n (Nat.lt_of_succ_lt h)).2)

theorem held_first (c : Dev nD) (t : Fin cfg0.N) (h : t.val % 8 = 0) : held m c t.val t.isLt = fresh m c t := by
  obtain ⟨n, hn⟩ := t
  cases n with
  | zero => rfl
  | succ n => exact if_pos h

theorem held_next (c : Dev nD) (t : Fin cfg0.N) (h : ¬t.val % 8 = 0) : held m c t.val t.isLt
    = ((held m c (t.val - 1) (by omega)).1, k0_pay1 (grid0.coords t) (held m c (t.val - 1) (by omega)).1
      (iblk m c 2 t) (iblk m c 3 t) (held m c (t.val - 1) (by omega)).2) := by
  obtain ⟨n, hn⟩ := t
  cases n with
  | zero => exact absurd rfl h
  | succ n => exact if_neg h

abbrev scRows : Memref sig .tc .vmem S512x2048 .bf16 := Memref.whole cc0_scratch0
abbrev scAcc : Memref sig .tc .vmem S512x2048 .f32 := Memref.whole cc0_scratch1

/-- The scratch buffers at anything, each as a memref owned at some contents. -/
theorem scratch_any (c : Dev nD) : (Pipeline.ΦA spec0 c : sProp 𝕄)
    = iprop(((∃ d, owns (c : Thread nD τ) scRows fullShare d) ∗ (∃ d, owns (c : Thread nD τ) scAcc fullShare d)) ∗ ∃ r, prngReg c r) := by
  unfold Pipeline.ΦA; rw [scopedRest0_eq]; simp only [scRows, scAcc, owns_whole]; try rfl

/-- The invariant before point `n`: at the start of a row block the scratch holds anything, else what the point
    before left. -/
def scratch (c : Dev nD) (n : ℕ) (h : n ≤ cfg0.N) : sProp 𝕄 :=
  if h0 : n % 8 = 0 then Pipeline.ΦA spec0 c
  else iprop((owns (c : Thread nD τ) scRows fullShare (held m c (n - 1) (by omega)).1
    ∗ owns (c : Thread nD τ) scAcc fullShare (held m c (n - 1) (by omega)).2) ∗ ∃ r, prngReg c r)

theorem scratch_start (c : Dev nD) (n : ℕ) (h : n ≤ cfg0.N) (h0 : n % 8 = 0) : scratch m c n h = Pipeline.ΦA spec0 c := dif_pos h0

theorem scratch_next (c : Dev nD) (n : ℕ) (h : n < cfg0.N) (h0 : ¬(n + 1) % 8 = 0) : scratch m c (n + 1) h
    = iprop((owns (c : Thread nD τ) scRows fullShare (held m c n h).1 ∗ owns (c : Thread nD τ) scAcc fullShare (held m c n h).2)
      ∗ ∃ r, prngReg c r) := dif_neg h0

theorem scratch_mid (c : Dev nD) (n : ℕ) (h : n ≤ cfg0.N) (h0 : ¬n % 8 = 0) : scratch m c n h
    = iprop((owns (c : Thread nD τ) scRows fullShare (held m c (n - 1) (by omega)).1
      ∗ owns (c : Thread nD τ) scAcc fullShare (held m c (n - 1) (by omega)).2) ∗ ∃ r, prngReg c r) := dif_neg h0

/-- The proof data: the inputs' buffers at their blocks, the output's at the finished rows, the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outRows (held m c t.val t.isLt).2 (iblk m c 0 t) (iblk m c 4 t)
    | ⟨_ + 6, h⟩ => absurd h (Nat.not_lt.2 (Nat.le_add_left _ _))
  Φ t := scratch m c t.val (Nat.le_of_lt_succ t.isLt)
  q _ := fullShare
  owed _ := 0

theorem A_eq (c : Dev nD) (w : Fin cfg0.W) : (dats m 0 c).A w = V m c (Pipeline.arrRef spec0 w) := by
  dsimp only [dats]

theorem scratch_castSucc (c : Dev nD) (t : Fin cfg0.N) :
    (dats m 0 c).Φ t.castSucc = scratch m c t.val (Nat.le_of_lt t.isLt) := by
  dsimp only [dats]; exact Pipeline.Dat.Φ_castSucc (scratch m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outRows (held m c t.val t.isLt).2 (iblk m c 0 t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- The output's buffer as the body leaves it: as found, but at the last chunk. -/
def leaves (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ leaves m c t)

theorem leaves_idle (c : Dev nD) (t : Fin cfg0.N) (h : ¬t.val % 8 = 7) :
    leaves m c t = iprop(∃ d, owns (c : Thread nD τ) (st0_5 t) fullShare ((dats m 0 c).before 5 t d)) := by
  have hl : cfg0.idle 5 (cfg0.grid.coords t) = true := by
    show (!(k0_cond2 (grid0.coords t) == 1#1)) = true
    rw [Bool.not_eq_true', beq_eq_false_iff_ne]
    exact fun e => h ((last_iff t).1 e)
  have hf : (cfg0.win 5).flush t = false := by
    rw [← Bool.not_eq_true]; exact fun e => h ((flush0_5 t).1 e)
  unfold leaves; rw [hl, hf]

theorem leaves_last (c : Dev nD) (t : Fin cfg0.N) (h : t.val % 8 = 7) :
    leaves m c t = owns (c : Thread nD τ) (st0_5 t) fullShare ((dats m 0 c).after 5 t) := by
  have hl : cfg0.idle 5 (cfg0.grid.coords t) = false := by
    show (!(k0_cond2 (grid0.coords t) == 1#1)) = false
    rw [(last_iff t).2 h]; rfl
  unfold leaves; rw [hl]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4]
  rw [show (dats m 0 c).Φ t.succ = scratch m c (t.val + 1) t.isLt from rfl, scratch_castSucc m c t]
  have hN : t.val < 256 := lt_of_lt_of_eq t.isLt (show cfg0.N = 256 from N_0)
  by_cases h0 : t.val % 8 = 0
  · rw [scratch_start m c _ _ h0, scratch_any, scratch_next m c t.val t.isLt (by omega), leaves_idle m c t (by omega),
      held_first m c t h0]
    iintro ⟨⟨⟨⟨%d8, H8⟩, ⟨%d9, H9⟩⟩, Hg⟩, Ho, ⟨%_, H0⟩, ⟨%_, H1⟩, ⟨%_, H2⟩, ⟨%_, H3⟩, ⟨%_, H4⟩, H5⟩
    have hx : (fresh m c t).2 = k0_pay1 (grid0.coords t) (normRows (iblk m c 0 t) (iblk m c 1 t)) (iblk m c 2 t) (iblk m c 3 t) d9 :=
      pay1_first _ ((chunk_val t).trans h0) _ _ _ _ _
    rw [hx]
    iapply run_first (h1 := (first_iff t).2 h0) (h2 := fun e => by have := (last_iff t).1 e; omega)
      (x2 := iblk m c 0 t) (x3 := iblk m c 1 t) (x4 := iblk m c 2 t) (x5 := iblk m c 3 t) (x9 := d9)
    isplitl [H0]
    · iexact H0
    isplitl [H1]
    · iexact H1
    isplitl [H2]
    · iexact H2
    isplitl [H3]
    · iexact H3
    isplitl [H8]
    · iexists _; iexact H8
    isplitl [H9]
    · iexact H9
    iintro ⟨H0, H1, H2, H3, H8, H9⟩
    isplitl [H8 H9 Hg]
    · isplitl [H8 H9]
      · isplitl [H8]
        · iexact H8
        iexact H9
      iexact Hg
    isplitl [Ho]
    · iexact Ho
    isplitl [H0]
    · iexact H0
    isplitl [H1]
    · iexact H1
    isplitl [H2]
    · iexact H2
    isplitl [H3]
    · iexact H3
    isplitl [H4]
    · iexact H4
    iexact H5
  · have hh := held_next m c t h0
    rw [scratch_mid m c _ _ h0]
    by_cases h7 : t.val % 8 = 7
    · rw [scratch_start m c _ _ (show (t.val + 1) % 8 = 0 by omega), scratch_any, leaves_last m c t h7, after_5, hh]
      iintro ⟨⟨⟨H8, H9⟩, Hg⟩, Ho, ⟨%_, H0⟩, ⟨%_, H1⟩, ⟨%_, H2⟩, ⟨%_, H3⟩, ⟨%_, H4⟩, ⟨%_, H5⟩⟩
      iapply run_last (h1 := fun e => h0 ((first_iff t).1 e)) (h2 := (last_iff t).2 h7)
        (x2 := iblk m c 0 t) (x4 := iblk m c 2 t) (x5 := iblk m c 3 t) (x6 := iblk m c 4 t)
      isplitl [H0]
      · iexact H0
      isplitl [H2]
      · iexact H2
      isplitl [H3]
      · iexact H3
      isplitl [H4]
      · iexact H4
      isplitl [H5]
      · iexists _; iexact H5
      isplitl [H8]
      · iexact H8
      isplitl [H9]
      · iexact H9
      iintro ⟨H0, H2, H3, H4, H5, H8, H9⟩
      isplitl [H8 H9 Hg]
      · isplitl [H8 H9]
        · isplitl [H8]
          · iexists _; iexact H8
          iexists _; iexact H9
        iexact Hg
      isplitl [Ho]
      · iexact Ho
      isplitl [H0]
      · iexact H0
      isplitl [H1]
      · iexact H1
      isplitl [H2]
      · iexact H2
      isplitl [H3]
      · iexact H3
      isplitl [H4]
      · iexact H4
      iexact H5
    · rw [scratch_next m c t.val t.isLt (by omega), leaves_idle m c t h7, hh]
      iintro ⟨⟨⟨H8, H9⟩, Hg⟩, Ho, ⟨%_, H0⟩, ⟨%_, H1⟩, ⟨%_, H2⟩, ⟨%_, H3⟩, ⟨%_, H4⟩, H5⟩
      iapply run_mid (h1 := fun e => h0 ((first_iff t).1 e)) (h2 := fun e => h7 ((last_iff t).1 e))
        (x4 := iblk m c 2 t) (x5 := iblk m c 3 t)
      isplitl [H2]
      · iexact H2
      isplitl [H3]
      · iexact H3
      isplitl [H8]
      · iexact H8
      isplitl [H9]
      · iexact H9
      iintro ⟨H2, H3, H8, H9⟩
      isplitl [H8 H9 Hg]
      · isplitl [H8 H9]
        · isplitl [H8]
          · iexact H8
          iexact H9
        iexact Hg
      isplitl [Ho]
      · iexact Ho
      isplitl [H0]
      · iexact H0
      isplitl [H1]
      · iexact H1
      isplitl [H2]
      · iexact H2
      isplitl [H3]
      · iexact H3
      isplitl [H4]
      · iexact H4
      iexact H5

theorem body_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = scratch m c 0 (Nat.zero_le _) from rfl, scratch_start m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = scratch m c cfg0.N (Nat.le_refl _) from rfl,
    scratch_start m c _ _ (show cfg0.N % 8 = 0 by rw [show cfg0.N = 256 from N_0])]
  try exact Idealize.SL.BI.Entails.refl _

set_option backward.isDefEq.respectTransparency.types false in
/-- The run of @main: every array of the pipeline ends at what its write-backs put there, every other buffer as the
    region found it, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
    ((θ_run defs _ _).mono (fun _ h => h.2) (run_main_quiescent m ρ))

end Cert.Mlp
-- ==== Proof.MlpValue.lean ====
/-
  The MLP kernel's value over the reals: each block the body leaves, read at an index, and the output array they make up.
-/
module

public import proofs.«01_k».proof.Proof.MlpFrame
public import proofs.«01_k».proof.Defs
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.Mlp

open Idealize.ShloMosaic Idealize.ShloMosaic.TcCoe Idealize.ShloMosaic.Tactic
open Idealize.SL.Sem
open Cert.Kernel2Ideal Cert.Kernel2Ideal.Gen

/-- The factor that scales a row to unit mean square, from the sum of the row's squares. -/
def unitScale (s : EReal) : EReal :=
  Ideal.rsqrt (Ideal.div s (Ideal.ofBits .f32 0x45000000#32) + Ideal.ofBits .f32 0x358637BD#32)

theorem pay3_apply (x : Vec Ideal S32x2048 .f32) (g : Vec Ideal S1x2048 .f32) (r : Fin 32) (j : Fin 2048) :
    k0_pay3 x g (ix2 r j) = x (ix2 r j) * unitScale (∑ k : Fin 2048, x (ix2 r k) * x (ix2 r k)) * g (ix2 0 j) := by
  pointwise [k0_pay3, unitScale]

theorem pay19_apply (z h : Vec Ideal S32x2048 .f32) (g : Vec Ideal S1x2048 .f32) (r : Fin 32) (j : Fin 2048) :
    k0_pay19 z h g (ix2 r j)
      = h (ix2 r j) + z (ix2 r j) * unitScale (∑ k : Fin 2048, z (ix2 r k) * z (ix2 r k)) * g (ix2 0 j) := by
  pointwise [k0_pay19, unitScale]

/-- The chunk number's word is zero exactly at chunk zero. -/
theorem chunk_word : ∀ n : Fin 8, Scalar.cmpi .eq (BitVec.ofNat 32 n.val) 0#32 = if n.val = 0 then 1#1 else 0#1 := by decide

theorem pay1_apply (i : grid0.Coords) (x : Vec Ideal S512x2048 .bf16) (u : Vec Ideal S2048x1024 .bf16)
    (d : Vec Ideal S1024x2048 .bf16) (a : Vec Ideal S512x2048 .f32) (r : Fin 512) (j : Fin 2048) :
    k0_pay1 i x u d a (ix2 r j) = (if (i 1).val = 0 then 0 else a (ix2 r j))
      + ∑ k : Fin 1024, max (∑ l : Fin 2048, x (ix2 r l) * u (ix2 l k)) 0 * max (∑ l : Fin 2048, x (ix2 r l) * u (ix2 l k)) 0
        * d (ix2 k j) := by
  pointwise [k0_pay1]
  rw [chunk_word (i 1)]
  split
  · exact (zero_add _).symm
  · rfl

/-- A block of 512 rows made of sixteen of 32, at an index. -/
theorem byRows_apply {α : Type} (P : Fin 16 → S32x2048.Idx → α) (r : Fin 512) (j : Fin 2048) :
    byRows P (ix2 r j) = P ⟨r.val / 32, by omega⟩ (ix2 ⟨r.val % 32, Nat.mod_lt _ (by decide)⟩ j) := rfl

theorem rowsOf_apply {α : Type} (X : S512x2048.Idx → α) (r : Fin 512) (j : Fin 2048) :
    rowsOf X ⟨r.val / 32, by omega⟩ (ix2 ⟨r.val % 32, Nat.mod_lt _ (by decide)⟩ j) = X (ix2 r j) := by
  show X (ix2 _ _) = _
  congr 2
  exact Fin.ext (Nat.div_add_mod _ _)

theorem normRows_apply (h : Vec Ideal S512x2048 .f32) (g : Vec Ideal S1x2048 .f32) (r : Fin 512) (j : Fin 2048) :
    normRows h g (ix2 r j) = h (ix2 r j) * unitScale (∑ k : Fin 2048, h (ix2 r k) * h (ix2 r k)) * g (ix2 0 j) := by
  unfold normRows
  rw [byRows_apply, pay3_apply]
  simp only [rowsOf_apply]

theorem outRows_apply (z h : Vec Ideal S512x2048 .f32) (g : Vec Ideal S1x2048 .f32) (r : Fin 512) (j : Fin 2048) :
    outRows z h g (ix2 r j)
      = h (ix2 r j) + z (ix2 r j) * unitScale (∑ k : Fin 2048, z (ix2 r k) * z (ix2 r k)) * g (ix2 0 j) := by
  unfold outRows
  rw [byRows_apply, pay19_apply]
  simp only [rowsOf_apply]

/-- The index maps of the six windows at every grid point. -/
theorem idx : ∀ t : Fin grid0.N, win0_0.index t = ![t.val / 8, 0] ∧ win0_1.index t = ![0, 0] ∧ win0_2.index t = ![0, t.val % 8]
    ∧ win0_3.index t = ![t.val % 8, 0] ∧ win0_4.index t = ![0, 0] ∧ win0_5.index t = ![t.val / 8, 0] := by decide +kernel

variable (m : (ℓ : Loc nD τ sig) → Buf (Elt Ideal) ℓ) (c : Dev nD)

/-- The row `r` of the row block of point `t`. -/
def rowAt (t : Fin cfg0.N) (r : Fin 512) : Fin 16384 :=
  ⟨512 * (t.val / 8) + r.val, by have := t.isLt; have : cfg0.N = 256 := N_0; omega⟩

/-- The hidden unit `k` of the chunk of point `t`. -/
def unitAt (t : Fin cfg0.N) (k : Fin 1024) : Fin 8192 := ⟨t.val % 8 * 1024 + k.val, by omega⟩

/-- The input's row `R`, column `j`. -/
def inp (R : Fin 16384) (j : Fin 2048) : EReal :=
  m ((c : Thread nD τ).loc main_arg0) (ix3 ⟨R.val / 2048, by omega⟩ ⟨R.val % 2048, Nat.mod_lt _ (by decide)⟩ j)

theorem blk_inp (t : Fin cfg0.N) (r : Fin 512) (j : Fin 2048) : iblk m c 0 t (ix2 r j) = inp m c (rowAt t r) j := by
  unfold inp rowAt
  blk_ext! [iblk, V, idx t]

theorem blk_gain (t : Fin cfg0.N) (j : Fin 2048) : iblk m c 1 t (ix2 0 j) = m ((c : Thread nD τ).loc main_arg1) (ix2 0 j) := by
  blk_ext! [iblk, V, idx t]

theorem blk_up (t : Fin cfg0.N) (l : Fin 2048) (k : Fin 1024) :
    iblk m c 2 t (ix2 l k) = m ((c : Thread nD τ).loc main_arg2) (ix2 l (unitAt t k)) := by
  unfold unitAt
  blk_ext [iblk, V_main_arg2, idx t]

theorem blk_down (t : Fin cfg0.N) (k : Fin 1024) (j : Fin 2048) :
    iblk m c 3 t (ix2 k j) = m ((c : Thread nD τ).loc main_arg3) (ix2 (unitAt t k) j) := by
  unfold unitAt
  blk_ext [iblk, V_main_arg3, idx t]

theorem blk_post (t : Fin cfg0.N) (j : Fin 2048) : iblk m c 4 t (ix2 0 j) = m ((c : Thread nD τ).loc main_arg4) (ix2 0 j) := by
  blk_ext! [iblk, V, idx t]

/-- The normalised input rows. -/
def normed (R : Fin 16384) (l : Fin 2048) : EReal :=
  inp m c R l * unitScale (∑ k : Fin 2048, inp m c R k * inp m c R k) * m ((c : Thread nD τ).loc main_arg1) (ix2 0 l)

/-- The hidden units before the activation. -/
def hidden (R : Fin 16384) (k : Fin 8192) : EReal :=
  ∑ l : Fin 2048, normed m c R l * m ((c : Thread nD τ).loc main_arg2) (ix2 l k)

/-- What one hidden unit adds to an entry of the down projection. -/
def share (R : Fin 16384) (k : Fin 8192) (j : Fin 2048) : EReal :=
  max (hidden m c R k) 0 * max (hidden m c R k) 0 * m ((c : Thread nD τ).loc main_arg3) (ix2 k j)

/-- The down projection. -/
def down (R : Fin 16384) (j : Fin 2048) : EReal := ∑ k : Fin 8192, share m c R k j

/-- The output rows: the input's and the normalised down projection's. -/
def outEntry (R : Fin 16384) (j : Fin 2048) : EReal :=
  inp m c R j + down m c R j * unitScale (∑ k : Fin 2048, down m c R k * down m c R k)
    * m ((c : Thread nD τ).loc main_arg4) (ix2 0 j)

/-- At every point the first scratch buffer holds the normalised rows of the point's row block. -/
theorem held_rows (r : Fin 512) (l : Fin 2048) : ∀ (n : ℕ) (h : n < cfg0.N),
    (held m c n h).1 (ix2 r l) = normed m c (rowAt ⟨n, h⟩ r) l := by
  have first (t : Fin cfg0.N) : normRows (iblk m c 0 t) (iblk m c 1 t) (ix2 r l) = normed m c (rowAt t r) l := by
    rw [normRows_apply]
    simp only [blk_inp, blk_gain, normed]
  intro n
  induction n with
  | zero => intro h; rw [held_first m c ⟨0, h⟩ rfl]; exact first _
  | succ n ih =>
    intro h
    by_cases h0 : (n + 1) % 8 = 0
    · rw [held_first m c ⟨n + 1, h⟩ h0]; exact first _
    · rw [held_next m c ⟨n + 1, h⟩ h0]
      refine (ih (Nat.lt_of_succ_lt h)).trans ?_
      have e : rowAt ⟨n, Nat.lt_of_succ_lt h⟩ r = rowAt ⟨n + 1, h⟩ r := Fin.ext (by simp only [rowAt]; omega)
      rw [e]

/-- What the chunk of a point adds to the accumulator. -/
def chunkSum (t : Fin cfg0.N) (y : S512x2048.Idx) : EReal :=
  ∑ k : Fin 1024, share m c (rowAt t (y 0)) (unitAt t k) (y 1)

theorem held_acc_first (t : Fin cfg0.N) (h : t.val % 8 = 0) (y : S512x2048.Idx) :
    (held m c t.val t.isLt).2 y = 0 + chunkSum m c t y := by
  have hr := fun l => held_rows m c (y 0) l t.val t.isLt
  rw [held_first m c t h] at hr ⊢
  obtain ⟨r, j, rfl⟩ : ∃ r j, y = ix2 r j := ⟨y 0, y 1, eq_ix2 y⟩
  refine (pay1_apply ..).trans ?_
  rw [if_pos ((chunk_val t).trans h)]
  unfold chunkSum share hidden
  simp only [fresh] at hr
  simp only [blk_up, blk_down]
  refine congrArg _ (Finset.sum_congr rfl fun k _ => ?_)
  simp only [← hr]
  rfl

theorem held_acc_next (t : Fin cfg0.N) (h : ¬t.val % 8 = 0) (y : S512x2048.Idx) :
    (held m c t.val t.isLt).2 y
      = (held m c (t.val - 1) (Nat.lt_of_le_of_lt (Nat.sub_le _ _) t.isLt)).2 y + chunkSum m c t y := by
  have hr := fun l => held_rows m c (y 0) l t.val t.isLt
  rw [held_next m c t h] at hr ⊢
  obtain ⟨r, j, rfl⟩ : ∃ r j, y = ix2 r j := ⟨y 0, y 1, eq_ix2 y⟩
  refine (pay1_apply ..).trans ?_
  rw [if_neg (by rw [chunk_val t]; exact h)]
  unfold chunkSum share hidden
  simp only [blk_up, blk_down]
  refine congrArg _ (Finset.sum_congr rfl fun k _ => ?_)
  simp only [← hr]
  rfl

/-- After the last chunk of a row block the accumulator holds the down projection. -/
theorem held_acc (t : Fin cfg0.N) (h : t.val % 8 = 7) (r : Fin 512) (j : Fin 2048) :
    (held m c t.val t.isLt).2 (ix2 r j) = down m c (rowAt t r) j := by
  rw [Pipeline.eq_sum_fin_of_reset_step_apply_of_flush (fun n h => (held m c n h).2) 8 (fun _ => 0) (chunkSum m c)
    (held_acc_first m c) (held_acc_next m c) t h (ix2 r j), zero_add]
  unfold chunkSum down
  refine Fin.sum_mul_add_congr fun s k hl => ?_
  have e : rowAt ⟨8 * (t.val / 8) + s.val, Pipeline.run_point_lt_of_flush t h s⟩ r = rowAt t r := Fin.ext (by simp only [rowAt]; omega)
  have e' : unitAt ⟨8 * (t.val / 8) + s.val, Pipeline.run_point_lt_of_flush t h s⟩ k = ⟨s.val * 1024 + k.val, hl⟩ :=
    Fin.ext (by simp only [unitAt]; omega)
  show share m c (rowAt _ r) (unitAt _ k) j = _
  rw [e, e']

/-- The output array of the call. -/
def result : Buf (Elt Ideal) ((c : Thread nD τ).loc main_v5) := fun i => outEntry m c (i 0) (i 1)

theorem covers : (cfg0.win 5).Covers := by decide +kernel

theorem final : (dats m 0 c).arrAt 5 cfg0.N = result m c := by
  refine (dats m 0 c).arrAt_eq_of_covers 5 _ covers fun t hf y => ?_
  blk_simp
  rw [after_5]
  obtain ⟨r, j, rfl⟩ : ∃ (r : Fin 512) (j : Fin 2048), y = ix2 r j := ⟨y 0, y 1, eq_ix2 y⟩
  have h7 : t.val % 8 = 7 := (flush0_5 t).mp hf
  refine (outRows_apply ..).trans ?_
  simp only [blk_inp, blk_post, held_acc m c t h7]
  show outEntry m c (rowAt t r) j = outEntry m c _ _
  refine congrArg₂ (outEntry m c) (Fin.ext ?_) (Fin.ext ?_)
  · blk_simp [idx t]
    unfold rowAt
    dsimp only
    omega
  · blk_simp [idx t]

end Cert.Mlp

namespace Cert.Mlp.Ref

open Idealize.ShloMosaic
open Cert.Reference2Ideal Cert.Reference2Ideal.Read

variable (x0 : (⟨S8x2048x2048, .f32⟩ : BufTy).Contents (Elt Ideal)) (x1 : (⟨S1x2048, .f32⟩ : BufTy).Contents (Elt Ideal))
  (x2 : (⟨S2048x8192, .bf16⟩ : BufTy).Contents (Elt Ideal)) (x3 : (⟨S8192x2048, .bf16⟩ : BufTy).Contents (Elt Ideal))
  (x4 : (⟨S1x2048, .f32⟩ : BufTy).Contents (Elt Ideal)) (b : Fin 8) (s : Fin 2048)

theorem normed (l : Fin 2048) :
    val_main_v13 x0 x1 (ix3 b s l)
      = x0 (ix3 b s l) * unitScale (∑ k : Fin 2048, x0 (ix3 b s k) * x0 (ix3 b s k)) * x1 (ix2 0 l) := by
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1, unitScale]

theorem hidden (k : Fin 8192) :
    val_main_v15 x0 x1 x2 (ix3 b s k) = ∑ l : Fin 2048, val_main_v13 x0 x1 (ix3 b s l) * x2 (ix2 l k) := by
  unfold val_main_v15
  generalize val_main_v13 x0 x1 = y
  pointwise [val_main_v14]

theorem down (j : Fin 2048) :
    val_main_v20 x0 x1 x2 x3 (ix3 b s j) = ∑ k : Fin 8192,
      max (val_main_v15 x0 x1 x2 (ix3 b s k)) 0 * max (val_main_v15 x0 x1 x2 (ix3 b s k)) 0 * x3 (ix2 k j) := by
  unfold val_main_v20 val_main_v18 val_main_v17
  generalize val_main_v15 x0 x1 x2 = y
  pointwise [val_main_v19, val_main_v16, val_main_cst_2]

theorem out (r : Fin 16384) (j : Fin 2048) (hb : r.val / 2048 = b.val) (hs : r.val % 2048 = s.val) :
    val_main_v36 x0 x1 x2 x3 x4 (ix2 r j)
      = x0 (ix3 b s j) + val_main_v20 x0 x1 x2 x3 (ix3 b s j)
        * unitScale (∑ k : Fin 2048, val_main_v20 x0 x1 x2 x3 (ix3 b s k) * val_main_v20 x0 x1 x2 x3 (ix3 b s k)) * x4 (ix2 0 j) := by
  unfold val_main_v36 val_main_v35 val_main_v34 val_main_v31 val_main_v30 val_main_v29 val_main_v28 val_main_v26 val_main_v24
    val_main_v23 val_main_v22
  generalize val_main_v20 x0 x1 x2 x3 = y
  pointwise [val_main_v33, val_main_v32, val_main_v27, val_main_v25, val_main_v21, val_main_cst_3, val_main_cst_4,
    val_main_cst_5, unitScale]
  simp only [hb, hs]

end Cert.Mlp.Ref

namespace Cert.Mlp

open Idealize.ShloMosaic Idealize.ShloMosaic.TcCoe
open Idealize.SL.Sem
open Cert.Kernel2Ideal Cert.Kernel2Ideal.Gen

variable (m : (ℓ : Loc nD τ sig) → Buf (Elt Ideal) ℓ) (c : Dev nD)

/-- The output array is the reference's result. -/
theorem result_eq : result m c = Cert.Reference2Ideal.Read.val_main_v36 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  funext i
  obtain ⟨r, j, rfl⟩ : ∃ (r : Fin 16384) (j : Fin 2048), i = ix2 r j := ⟨i 0, i 1, eq_ix2 i⟩
  rw [Ref.out _ _ _ _ _ ⟨r.val / 2048, by omega⟩ ⟨r.val % 2048, Nat.mod_lt _ (by decide)⟩ r j rfl rfl]
  simp only [Ref.down, Ref.hidden, Ref.normed]
  rfl

/-- The kernel's run: the output array holds the reference's result, the arguments are unchanged. -/
theorem run_value (ρ : Dev nD → PrngReg) : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.2 c).1 5).trans (final m c), h.1.1 c⟩)
    (θ_run_and (frame m ρ) (run_main m ρ))

/-- The reference computes the kernel's result on the same arguments. -/
theorem algebraic : Cert.algebraic_Kernel2Ideal_Reference2Ideal := by
  intro m ρ m' ρ' _ hagree
  refine ⟨fun c => result m c, run_value m ρ, ?_⟩
  refine (θ_run Cert.Reference2Ideal.defs _ _).mono (fun r h c => ⟨?_, (h c).2⟩) (Cert.Reference2Ideal.Value.run m' ρ')
  obtain ⟨h0, h1, h2, h3, h4⟩ := hagree c
  rw [(h c).1, Cert.Reference2Ideal.Read.val_main_v36_eq, h0, h1, h2, h3, h4]
  exact (result_eq m c).symm

end Cert.Mlp
-- ==== Proof.Twin.lean ====
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2Ideal

@[expose] public section

/-!
The program of each call and its counterpart that is read over the extended reals are one text.
Here their tables of functions are shown equal over bits, so that one execution serves both frames.
-/

open Idealize.ShloMosaic Idealize.SL.Sem

namespace Cert

set_option maxHeartbeats 8000000 in
/-- The mixer's two tables of functions are one. -/
theorem mixer_defs : Kernel.defs (F := Bits) = KernelIdeal.defs (F := Bits) := by
  have bodies : Kernel.defs₀ (F := Bits) = KernelIdeal.defs₀ (F := Bits) := by
    unfold Kernel.defs₀ KernelIdeal.defs₀
    refine congrArg Defs.onTc ?_
    funext l a
    match l, a with
    | 0, (_, _) => rfl
    | ⟨_ + 1, h⟩, _ => exact absurd h (Nat.not_lt.2 (Nat.le_add_left _ _))
  exact congrArg (Pipeline.defs Kernel.pcfgs) bodies

/-- The MLP's two tables of functions are one. -/
theorem mlp_defs : Kernel2.defs (F := Bits) = Kernel2Ideal.defs (F := Bits) := by
  have bodies : Kernel2.defs₀ (F := Bits) = Kernel2Ideal.defs₀ (F := Bits) := by
    unfold Kernel2.defs₀ Kernel2Ideal.defs₀
    refine congrArg Defs.onTc ?_
    funext l a
    match l, a with
    | 0, (_, _) => rfl
    | ⟨_ + 1, h⟩, _ => exact absurd h (Nat.not_lt.2 (Nat.le_add_left _ _))
  exact congrArg (Pipeline.defs Kernel2.pcfgs) bodies

end Cert
-- ==== Proof.lean ====
/-
  The proof of `Cert.Claim`: the frames and the values of the mixer call and of the MLP call.
-/
module

public import proofs.«01_k».proof.Defs
public import proofs.«01_k».proof.Proof.MixRun
public import proofs.«01_k».proof.Proof.MlpValue
public import proofs.«01_k».proof.Proof.Twin
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run

@[expose] public section

noncomputable section

namespace Cert.Proof

open Idealize.ShloMosaic Idealize.SL.Sem

/-- The mixer's frame; its text is the idealised program's, whose run holds at any float type. -/
theorem frame_kernel : Cert.quiescent_Kernel := fun m ρ _ =>
  (congrArg (fun table => θ_run table (onTc Cert.Kernel.main) ⟨m, fun _ => 0, ρ⟩ _) mixer_defs).mpr
    (Cert.KernelIdeal.Gen.frame (F := Bits) m ρ)

theorem frame_kernel_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

/-- The MLP's frame; its text is the idealised program's, whose run holds at any float type. -/
theorem frame_kernel2 : Cert.quiescent_Kernel2 := fun m ρ _ =>
  (congrArg (fun table => θ_run table (onTc Cert.Kernel2.main) ⟨m, fun _ => 0, ρ⟩ _) mlp_defs).mpr
    (Cert.Mlp.frame (F := Bits) m ρ)

theorem frame_kernel2_ideal : Cert.quiescent_Kernel2Ideal := fun m ρ _ => Cert.Mlp.frame m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  frame_kernel, frame_kernel_ideal, frame_reference, frame_kernel2, frame_kernel2_ideal, frame_reference2,
  trivial, Cert.Mix.algebraic, trivial, Cert.Mlp.algebraic⟩

end Cert.Proof

end
